-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  main_v3
-- ==== Kernel.lean ====
abbrev S32x1x512x512 : Shape := ⟨4, ![32, 1, 512, 512]⟩
abbrev S32x512x512 : Shape := ⟨3, ![32, 512, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S64 : Shape := ⟨1, ![64]⟩
abbrev S1x64 : Shape := ⟨2, ![1, 64]⟩
abbrev S512x64 : Shape := ⟨2, ![512, 64]⟩
abbrev S32x10x64x64 : Shape := ⟨4, ![32, 10, 64, 64]⟩
abbrev S1x512x512 : Shape := ⟨3, ![1, 512, 512]⟩
abbrev S1x10x64x64 : Shape := ⟨4, ![1, 10, 64, 64]⟩
abbrev S512x511 : Shape := ⟨2, ![512, 511]⟩
abbrev S511x512 : Shape := ⟨2, ![511, 512]⟩
abbrev S64x512 : Shape := ⟨2, ![64, 512]⟩
abbrev S64x64 : Shape := ⟨2, ![64, 64]⟩
abbrev S1x1x64x64 : Shape := ⟨4, ![1, 1, 64, 64]⟩

abbrev nBuf : Space → Nat
  | .hbm => 58
  | .vmem => 6
  | .smem => 0
  | _ => 0

abbrev bufTy : (tb : Table) → Fin (tcTables nBuf tb) → BufTy
  | .hbm, ⟨0, _⟩ => ⟨S32x1x512x512, .f32⟩
  | .hbm, ⟨1, _⟩ => ⟨S32x512x512, .f32⟩
  | .hbm, ⟨2, _⟩ => ⟨S512, .i32⟩
  | .hbm, ⟨3, _⟩ => ⟨S512x1, .i32⟩
  | .hbm, ⟨4, _⟩ => ⟨S1x512, .i32⟩
  | .hbm, ⟨5, _⟩ => ⟨S512x512, .i32⟩
  | .hbm, ⟨6, _⟩ => ⟨S512x512, .i32⟩
  | .hbm, ⟨7, _⟩ => ⟨S512x512, .i32⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i1⟩
  | .hbm, ⟨12, _⟩ => ⟨S_, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S_, .i32⟩
  | .hbm, ⟨18, _⟩ => ⟨S512x512, .i32⟩
  | .hbm, ⟨19, _⟩ => ⟨S512x512, .i1⟩
  | .hbm, ⟨20, _⟩ => ⟨S_, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .bf16⟩
  | .hbm, ⟨27, _⟩ => ⟨S512x1, .i32⟩
  | .hbm, ⟨28, _⟩ => ⟨S_, .i32⟩
  | .hbm, ⟨29, _⟩ => ⟨S_, .i32⟩
  | .hbm, ⟨30, _⟩ => ⟨S512x1, .i32⟩
  | .hbm, ⟨31, _⟩ => ⟨S512x1, .i32⟩
  | .hbm, ⟨32, _⟩ => ⟨S512x1, .i32⟩
  | .hbm, ⟨33, _⟩ => ⟨S_, .i32⟩
  | .hbm, ⟨34, _⟩ => ⟨S512x1, .i32⟩
  | .hbm, ⟨35, _⟩ => ⟨S512x1, .i1⟩
  | .hbm, ⟨36, _⟩ => ⟨S512x1, .i32⟩
  | .hbm, ⟨37, _⟩ => ⟨S512x1, .i32⟩
  | .hbm, ⟨38, _⟩ => ⟨S_, .i32⟩
  | .hbm, ⟨39, _⟩ => ⟨S512x1, .i32⟩
  | .hbm, ⟨40, _⟩ => ⟨S512x1, .i1⟩
  | .hbm, ⟨41, _⟩ => ⟨S512x1, .i1⟩
  | .hbm, ⟨42, _⟩ => ⟨S_, .i32⟩
  | .hbm, ⟨43, _⟩ => ⟨S512x1, .i32⟩
  | .hbm, ⟨44, _⟩ => ⟨S512x1, .i32⟩
  | .hbm, ⟨45, _⟩ => ⟨S512x1, .i32⟩
  | .hbm, ⟨46, _⟩ => ⟨S64, .i32⟩
  | .hbm, ⟨47, _⟩ => ⟨S1x64, .i32⟩
  | .hbm, ⟨48, _⟩ => ⟨S512x64, .i32⟩
  | .hbm, ⟨49, _⟩ => ⟨S512x64, .i32⟩
  | .hbm, ⟨50, _⟩ => ⟨S512x64, .i1⟩
  | .hbm, ⟨51, _⟩ => ⟨S_, .f32⟩
  | .hbm, ⟨52, _⟩ => ⟨S_, .f32⟩
  | .hbm, ⟨53, _⟩ => ⟨S512x64, .f32⟩
  | .hbm, ⟨54, _⟩ => ⟨S512x64, .f32⟩
  | .hbm, ⟨55, _⟩ => ⟨S512x64, .f32⟩
  | .hbm, ⟨56, _⟩ => ⟨S512x64, .bf16⟩
  | .hbm, ⟨57, _⟩ => ⟨S32x10x64x64, .f32⟩
  | .local _ .vmem, ⟨0, _⟩ => ⟨S1x512x512, .f32⟩
  | .local _ .vmem, ⟨1, _⟩ => ⟨S1x512x512, .f32⟩
  | .local _ .vmem, ⟨2, _⟩ => ⟨S512x512, .bf16⟩
  | .local _ .vmem, ⟨3, _⟩ => ⟨S512x64, .bf16⟩
  | .local _ .vmem, ⟨4, _⟩ => ⟨S1x10x64x64, .f32⟩
  | .local _ .vmem, ⟨5, _⟩ => ⟨S1x10x64x64, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_c : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_c_0 : Ref sig .tc := ⟨.hbm, 42, rfl⟩
abbrev main_call2_v12 : Ref sig .tc := ⟨.hbm, 43, rfl⟩
abbrev main_call2_v13 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_5 : Ref sig .tc := ⟨.hbm, 51, rfl⟩
abbrev main_cst_6 : Ref sig .tc := ⟨.hbm, 52, rfl⟩
abbrev main_call3_v0 : Ref sig .tc := ⟨.hbm, 53, rfl⟩
abbrev main_call3_v1 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x10x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x1x512x512 : Shape := ⟨4, ![32, 1, 512, 512]⟩
abbrev S32x512x512 : Shape := ⟨3, ![32, 512, 512]⟩
abbrev S_ : Shape := ⟨0, ![]⟩
abbrev S32x514x514 : Shape := ⟨3, ![32, 514, 514]⟩
abbrev S32x2x512x512 : Shape := ⟨4, ![32, 2, 512, 512]⟩
abbrev S32x10x512x512 : Shape := ⟨4, ![32, 10, 512, 512]⟩
abbrev S32 : Shape := ⟨1, ![32]⟩
abbrev S32x1x1 : Shape := ⟨3, ![32, 1, 1]⟩
abbrev S512 : Shape := ⟨1, ![512]⟩
abbrev S1x512x1 : Shape := ⟨3, ![1, 512, 1]⟩
abbrev S1x1x512 : Shape := ⟨3, ![1, 1, 512]⟩
abbrev S32x512x512x1 : Shape := ⟨4, ![32, 512, 512, 1]⟩
abbrev S32x512x512x4 : Shape := ⟨4, ![32, 512, 512, 4]⟩
abbrev S32x10x64x8x64x8 : Shape := ⟨6, ![32, 10, 64, 8, 64, 8]⟩
abbrev S32x10x64x64 : Shape := ⟨4, ![32, 10, 64, 64]⟩

abbrev nBuf : Space → Nat
  | .hbm => 248
  | .vmem => 0
  | .smem => 0
  | _ => 0

abbrev hbmTy0_0 (i : Nat) : BufTy := match i % 128 with
  | 0 => ⟨S32x1x512x512, .f32⟩
  | 1 => ⟨S32x512x512, .f32⟩
  | 2 => ⟨S_, .i32⟩
  | 3 => ⟨S_, .f32⟩
  | 4 => ⟨S32x514x514, .f32⟩
  | 5 => ⟨S32x512x512, .f32⟩
  | 6 => ⟨S_, .f32⟩
  | 7 => ⟨S32x512x512, .f32⟩
  | 8 => ⟨S32x512x512, .f32⟩
  | 9 => ⟨S_, .f32⟩
  | 10 => ⟨S32x512x512, .f32⟩
  | 11 => ⟨S32x512x512, .f32⟩
  | 12 => ⟨S32x512x512, .f32⟩
  | 13 => ⟨S_, .f32⟩
  | 14 => ⟨S32x512x512, .f32⟩
  | 15 => ⟨S32x512x512, .f32⟩
  | 16 => ⟨S32x512x512, .f32⟩
  | 17 => ⟨S32x512x512, .f32⟩
  | 18 => ⟨S_, .f32⟩
  | 19 => ⟨S32x512x512, .f32⟩
  | 20 => ⟨S32x512x512, .f32⟩
  | 21 => ⟨S32x512x512, .f32⟩
  | 22 => ⟨S32x512x512, .f32⟩
  | 23 => ⟨S_, .f32⟩
  | 24 => ⟨S32x512x512, .f32⟩
  | 25 => ⟨S32x512x512, .f32⟩
  | 26 => ⟨S32x512x512, .f32⟩
  | 27 => ⟨S32x512x512, .f32⟩
  | 28 => ⟨S_, .f32⟩
  | 29 => ⟨S32x512x512, .f32⟩
  | 30 => ⟨S32x512x512, .f32⟩
  | 31 => ⟨S32x512x512, .f32⟩
  | 32 => ⟨S32x512x512, .f32⟩
  | 33 => ⟨S_, .f32⟩
  | 34 => ⟨S32x512x512, .f32⟩
  | 35 => ⟨S32x512x512, .f32⟩
  | 36 => ⟨S32x512x512, .f32⟩
  | 37 => ⟨S32x512x512, .f32⟩
  | 38 => ⟨S_, .f32⟩
  | 39 => ⟨S32x512x512, .f32⟩
  | 40 => ⟨S32x512x512, .f32⟩
  | 41 => ⟨S32x512x512, .f32⟩
  | 42 => ⟨S32x512x512, .f32⟩
  | 43 => ⟨S_, .f32⟩
  | 44 => ⟨S32x512x512, .f32⟩
  | 45 => ⟨S32x512x512, .f32⟩
  | 46 => ⟨S32x512x512, .f32⟩
  | 47 => ⟨S32x512x512, .f32⟩
  | 48 => ⟨S_, .f32⟩
  | 49 => ⟨S32x512x512, .f32⟩
  | 50 => ⟨S32x512x512, .f32⟩
  | 51 => ⟨S32x512x512, .f32⟩
  | 52 => ⟨S32x512x512, .f32⟩
  | 53 => ⟨S_, .f32⟩
  | 54 => ⟨S32x512x512, .f32⟩
  | 55 => ⟨S32x512x512, .f32⟩
  | 56 => ⟨S_, .f32⟩
  | 57 => ⟨S32x512x512, .f32⟩
  | 58 => ⟨S32x512x512, .f32⟩
  | 59 => ⟨S32x512x512, .f32⟩
  | 60 => ⟨S_, .f32⟩
  | 61 => ⟨S32x512x512, .f32⟩
  | 62 => ⟨S32x512x512, .f32⟩
  | 63 => ⟨S32x512x512, .f32⟩
  | 64 => ⟨S32x512x512, .f32⟩
  | 65 => ⟨S_, .f32⟩
  | 66 => ⟨S32x512x512, .f32⟩
  | 67 => ⟨S32x512x512, .f32⟩
  | 68 => ⟨S32x512x512, .f32⟩
  | 69 => ⟨S32x512x512, .f32⟩
  | 70 => ⟨S_, .f32⟩
  | 71 => ⟨S32x512x512, .f32⟩
  | 72 => ⟨S32x512x512, .f32⟩
  | 73 => ⟨S32x512x512, .f32⟩
  | 74 => ⟨S32x512x512, .f32⟩
  | 75 => ⟨S_, .f32⟩
  | 76 => ⟨S32x512x512, .f32⟩
  | 77 => ⟨S32x512x512, .f32⟩
  | 78 => ⟨S32x512x512, .f32⟩
  | 79 => ⟨S32x512x512, .f32⟩
  | 80 => ⟨S_, .f32⟩
  | 81 => ⟨S32x512x512, .f32⟩
  | 82 => ⟨S32x512x512, .f32⟩
  | 83 => ⟨S32x512x512, .f32⟩
  | 84 => ⟨S32x512x512, .f32⟩
  | 85 => ⟨S_, .f32⟩
  | 86 => ⟨S32x512x512, .f32⟩
  | 87 => ⟨S32x512x512, .f32⟩
  | 88 => ⟨S32x512x512, .f32⟩
  | 89 => ⟨S32x512x512, .f32⟩
  | 90 => ⟨S_, .f32⟩
  | 91 => ⟨S32x512x512, .f32⟩
  | 92 => ⟨S32x512x512, .f32⟩
  | 93 => ⟨S32x512x512, .f32⟩
  | 94 => ⟨S32x512x512, .f32⟩
  | 95 => ⟨S_, .f32⟩
  | 96 => ⟨S32x512x512, .f32⟩
  | 97 => ⟨S32x512x512, .f32⟩
  | 98 => ⟨S32x512x512, .f32⟩
  | 99 => ⟨S32x1x512x512, .f32⟩
  | 100 => ⟨S32x1x512x512, .f32⟩
  | 101 => ⟨S32x2x512x512, .f32⟩
  | 102 => ⟨S32x2x512x512, .f32⟩
  | 103 => ⟨S_, .f32⟩
  | 104 => ⟨S32x512x512, .f32⟩
  | 105 => ⟨S32x512x512, .f32⟩
  | 106 => ⟨S32x1x512x512, .f32⟩
  | 107 => ⟨S32x512x512, .f32⟩
  | 108 => ⟨S32x1x512x512, .f32⟩
  | 109 => ⟨S32x512x512, .f32⟩
  | 110 => ⟨S32x512x512, .f32⟩
  | 111 => ⟨S_, .f32⟩
  | 112 => ⟨S32x512x512, .f32⟩
  | 113 => ⟨S32x512x512, .f32⟩
  | 114 => ⟨S_, .f32⟩
  | 115 => ⟨S32x512x512, .f32⟩
  | 116 => ⟨S32x512x512, .f32⟩
  | 117 => ⟨S32x512x512, .f32⟩
  | 118 => ⟨S_, .i32⟩
  | 119 => ⟨S_, .f32⟩
  | 120 => ⟨S32x512x512, .f32⟩
  | 121 => ⟨S32x512x512, .f32⟩
  | 122 => ⟨S_, .f32⟩
  | 123 => ⟨S32x512x512, .f32⟩
  | 124 => ⟨S32x512x512, .i1⟩
  | 125 => ⟨S_, .f32⟩
  | 126 => ⟨S32x512x512, .f32⟩
  | 127 => ⟨S32x512x512, .i1⟩
  | _ => ⟨S32x1x512x512, .f32⟩

abbrev hbmTy0_1 (i : Nat) : BufTy := match i % 128 with
  | 0 => ⟨S_, .f32⟩
  | 1 => ⟨S_, .i1⟩
  | 2 => ⟨S32x512x512, .i1⟩
  | 3 => ⟨S32x512x512, .i1⟩
  | 4 => ⟨S32x512x512, .i1⟩
  | 5 => ⟨S32x512x512, .f32⟩
  | 6 => ⟨S32x512x512, .f32⟩
  | 7 => ⟨S32x512x512, .f32⟩
  | 8 => ⟨S32x512x512, .i32⟩
  | 9 => ⟨S32x512x512, .f32⟩
  | 10 => ⟨S_, .i32⟩
  | 11 => ⟨S_, .f32⟩
  | 12 => ⟨S32x512x512, .f32⟩
  | 13 => ⟨S32x512x512, .f32⟩
  | 14 => ⟨S_, .f32⟩
  | 15 => ⟨S32x512x512, .f32⟩
  | 16 => ⟨S32x512x512, .i1⟩
  | 17 => ⟨S_, .f32⟩
  | 18 => ⟨S32x512x512, .f32⟩
  | 19 => ⟨S32x512x512, .i1⟩
  | 20 => ⟨S_, .f32⟩
  | 21 => ⟨S_, .i1⟩
  | 22 => ⟨S32x512x512, .i1⟩
  | 23 => ⟨S32x512x512, .i1⟩
  | 24 => ⟨S32x512x512, .i1⟩
  | 25 => ⟨S32x512x512, .f32⟩
  | 26 => ⟨S32x512x512, .f32⟩
  | 27 => ⟨S32x512x512, .f32⟩
  | 28 => ⟨S32x512x512, .i32⟩
  | 29 => ⟨S_, .f32⟩
  | 30 => ⟨S32x10x512x512, .f32⟩
  | 31 => ⟨S32, .i32⟩
  | 32 => ⟨S32x1x1, .i32⟩
  | 33 => ⟨S512, .i32⟩
  | 34 => ⟨S1x512x1, .i32⟩
  | 35 => ⟨S512, .i32⟩
  | 36 => ⟨S1x1x512, .i32⟩
  | 37 => ⟨S_, .i32⟩
  | 38 => ⟨S32x1x1, .i32⟩
  | 39 => ⟨S32x1x1, .i1⟩
  | 40 => ⟨S_, .i32⟩
  | 41 => ⟨S32x1x1, .i32⟩
  | 42 => ⟨S32x1x1, .i32⟩
  | 43 => ⟨S32x1x1, .i32⟩
  | 44 => ⟨S_, .i32⟩
  | 45 => ⟨S32x512x512, .i32⟩
  | 46 => ⟨S32x512x512, .i1⟩
  | 47 => ⟨S_, .i32⟩
  | 48 => ⟨S32x512x512, .i32⟩
  | 49 => ⟨S32x512x512, .i32⟩
  | 50 => ⟨S32x512x512, .i32⟩
  | 51 => ⟨S_, .i32⟩
  | 52 => ⟨S1x512x1, .i32⟩
  | 53 => ⟨S1x512x1, .i1⟩
  | 54 => ⟨S_, .i32⟩
  | 55 => ⟨S1x512x1, .i32⟩
  | 56 => ⟨S1x512x1, .i32⟩
  | 57 => ⟨S1x512x1, .i32⟩
  | 58 => ⟨S_, .i32⟩
  | 59 => ⟨S1x1x512, .i32⟩
  | 60 => ⟨S1x1x512, .i1⟩
  | 61 => ⟨S_, .i32⟩
  | 62 => ⟨S1x1x512, .i32⟩
  | 63 => ⟨S1x1x512, .i32⟩
  | 64 => ⟨S1x1x512, .i32⟩
  | 65 => ⟨S32x512x512, .i32⟩
  | 66 => ⟨S32x512x512, .i32⟩
  | 67 => ⟨S32x512x512, .i32⟩
  | 68 => ⟨S32x512x512x1, .i32⟩
  | 69 => ⟨S32x512x512x1, .i32⟩
  | 70 => ⟨S32x512x512x1, .i32⟩
  | 71 => ⟨S32x512x512x1, .i32⟩
  | 72 => ⟨S32x512x512x4, .i32⟩
  | 73 => ⟨S32x10x512x512, .f32⟩
  | 74 => ⟨S_, .f32⟩
  | 75 => ⟨S32x512x512, .f32⟩
  | 76 => ⟨S32x512x512, .f32⟩
  | 77 => ⟨S_, .i32⟩
  | 78 => ⟨S32x1x1, .i32⟩
  | 79 => ⟨S32x1x1, .i1⟩
  | 80 => ⟨S_, .i32⟩
  | 81 => ⟨S32x1x1, .i32⟩
  | 82 => ⟨S32x1x1, .i32⟩
  | 83 => ⟨S32x1x1, .i32⟩
  | 84 => ⟨S_, .i32⟩
  | 85 => ⟨S32x512x512, .i32⟩
  | 86 => ⟨S32x512x512, .i1⟩
  | 87 => ⟨S_, .i32⟩
  | 88 => ⟨S32x512x512, .i32⟩
  | 89 => ⟨S32x512x512, .i32⟩
  | 90 => ⟨S32x512x512, .i32⟩
  | 91 => ⟨S_, .i32⟩
  | 92 => ⟨S1x512x1, .i32⟩
  | 93 => ⟨S1x512x1, .i1⟩
  | 94 => ⟨S_, .i32⟩
  | 95 => ⟨S1x512x1, .i32⟩
  | 96 => ⟨S1x512x1, .i32⟩
  | 97 => ⟨S1x512x1, .i32⟩
  | 98 => ⟨S_, .i32⟩
  | 99 => ⟨S1x1x512, .i32⟩
  | 100 => ⟨S1x1x512, .i1⟩
  | 101 => ⟨S_, .i32⟩
  | 102 => ⟨S1x1x512, .i32⟩
  | 103 => ⟨S1x1x512, .i32⟩
  | 104 => ⟨S1x1x512, .i32⟩
  | 105 => ⟨S32x512x512, .i32⟩
  | 106 => ⟨S32x512x512, .i32⟩
  | 107 => ⟨S32x512x512, .i32⟩
  | 108 => ⟨S32x512x512x1, .i32⟩
  | 109 => ⟨S32x512x512x1, .i32⟩
  | 110 => ⟨S32x512x512x1, .i32⟩
  | 111 => ⟨S32x512x512x1, .i32⟩
  | 112 => ⟨S32x512x512x4, .i32⟩
  | 113 => ⟨S32x10x512x512, .f32⟩
  | 114 => ⟨S32x10x64x8x64x8, .f32⟩
  | 115 => ⟨S_, .f32⟩
  | 116 => ⟨S32x10x64x64, .f32⟩
  | 117 => ⟨S_, .f32⟩
  | 118 => ⟨S32x10x64x64, .f32⟩
  | 119 => ⟨S32x10x64x64, .f32⟩
  | _ => ⟨S32x1x512x512, .f32⟩

abbrev hbmTy (i : Nat) : BufTy := match i / 128 with
  | 0 => hbmTy0_0 i
  | 1 => hbmTy0_1 i
  | _ => ⟨S32x1x512x512, .f32⟩

abbrev bufTy : (tb : Table) → Fin (tcTables nBuf tb) → BufTy
  | .hbm, ⟨i, _⟩ => hbmTy i
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_13 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_14 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_15 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_16 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_17 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_18 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_19 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_20 : Ref sig .tc := ⟨.hbm, 111, rfl⟩
abbrev main_v87 : Ref sig .tc := ⟨.hbm, 112, rfl⟩
abbrev main_v88 : Ref sig .tc := ⟨.hbm, 113, rfl⟩
abbrev main_cst_21 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_c_22 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_call1_cst : Ref sig .tc := ⟨.hbm, 122, rfl⟩
abbrev main_call1_v3 : Ref sig .tc := ⟨.hbm, 123, rfl⟩
abbrev main_call1_v4 : Ref sig .tc := ⟨.hbm, 124, rfl⟩
abbrev main_call1_cst_0 : Ref sig .tc := ⟨.hbm, 125, rfl⟩
abbrev main_call1_v5 : Ref sig .tc := ⟨.hbm, 126, rfl⟩
abbrev main_call1_v6 : Ref sig .tc := ⟨.hbm, 127, rfl⟩
abbrev main_call1_cst_1 : Ref sig .tc := ⟨.hbm, 128, rfl⟩
abbrev main_call1_v7 : Ref sig .tc := ⟨.hbm, 129, rfl⟩
abbrev main_call1_v8 : Ref sig .tc := ⟨.hbm, 130, rfl⟩
abbrev main_call1_v9 : Ref sig .tc := ⟨.hbm, 131, rfl⟩
abbrev main_call1_v10 : Ref sig .tc := ⟨.hbm, 132, rfl⟩
abbrev main_call1_v11 : Ref sig .tc := ⟨.hbm, 133, rfl⟩
abbrev main_call1_v12 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_c_23 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_call2_cst : Ref sig .tc := ⟨.hbm, 142, rfl⟩
abbrev main_call2_v3 : Ref sig .tc := ⟨.hbm, 143, rfl⟩
abbrev main_call2_v4 : Ref sig .tc := ⟨.hbm, 144, rfl⟩
abbrev main_call2_cst_0 : Ref sig .tc := ⟨.hbm, 145, rfl⟩
abbrev main_call2_v5 : Ref sig .tc := ⟨.hbm, 146, rfl⟩
abbrev main_call2_v6 : Ref sig .tc := ⟨.hbm, 147, rfl⟩
abbrev main_call2_cst_1 : Ref sig .tc := ⟨.hbm, 148, rfl⟩
abbrev main_call2_v7 : Ref sig .tc := ⟨.hbm, 149, rfl⟩
abbrev main_call2_v8 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_call2_v12 : Ref sig .tc := ⟨.hbm, 154, rfl⟩
abbrev main_v95 : Ref sig .tc := ⟨.hbm, 155, rfl⟩
abbrev main_v96 : Ref sig .tc := ⟨.hbm, 156, rfl⟩
abbrev main_cst_24 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_c_25 : Ref sig .tc := ⟨.hbm, 165, rfl⟩
abbrev main_v104 : Ref sig .tc := ⟨.hbm, 166, rfl⟩
abbrev main_v105 : Ref sig .tc := ⟨.hbm, 167, rfl⟩
abbrev main_c_26 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_c_27 : Ref sig .tc := ⟨.hbm, 172, rfl⟩
abbrev main_v109 : Ref sig .tc := ⟨.hbm, 173, rfl⟩
abbrev main_v110 : Ref sig .tc := ⟨.hbm, 174, rfl⟩
abbrev main_c_28 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_c_29 : Ref sig .tc := ⟨.hbm, 179, rfl⟩
abbrev main_v114 : Ref sig .tc := ⟨.hbm, 180, rfl⟩
abbrev main_v115 : Ref sig .tc := ⟨.hbm, 181, rfl⟩
abbrev main_c_30 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_c_31 : Ref sig .tc := ⟨.hbm, 186, rfl⟩
abbrev main_v119 : Ref sig .tc := ⟨.hbm, 187, rfl⟩
abbrev main_v120 : Ref sig .tc := ⟨.hbm, 188, rfl⟩
abbrev main_c_32 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_cst_33 : Ref sig .tc := ⟨.hbm, 202, rfl⟩
abbrev main_v133 : Ref sig .tc := ⟨.hbm, 203, rfl⟩
abbrev main_v134 : Ref sig .tc := ⟨.hbm, 204, rfl⟩
abbrev main_c_34 : Ref sig .tc := ⟨.hbm, 205, rfl⟩
abbrev main_v135 : Ref sig .tc := ⟨.hbm, 206, rfl⟩
abbrev main_v136 : Ref sig .tc := ⟨.hbm, 207, rfl⟩
abbrev main_c_35 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_c_36 : Ref sig .tc := ⟨.hbm, 212, rfl⟩
abbrev main_v140 : Ref sig .tc := ⟨.hbm, 213, rfl⟩
abbrev main_v141 : Ref sig .tc := ⟨.hbm, 214, rfl⟩
abbrev main_c_37 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_c_38 : Ref sig .tc := ⟨.hbm, 219, rfl⟩
abbrev main_v145 : Ref sig .tc := ⟨.hbm, 220, rfl⟩
abbrev main_v146 : Ref sig .tc := ⟨.hbm, 221, rfl⟩
abbrev main_c_39 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_c_40 : Ref sig .tc := ⟨.hbm, 226, rfl⟩
abbrev main_v150 : Ref sig .tc := ⟨.hbm, 227, rfl⟩
abbrev main_v151 : Ref sig .tc := ⟨.hbm, 228, rfl⟩
abbrev main_c_41 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_cst_42 : Ref sig .tc := ⟨.hbm, 243, rfl⟩
abbrev main_v165 : Ref sig .tc := ⟨.hbm, 244, rfl⟩
abbrev main_cst_43 : Ref sig .tc := ⟨.hbm, 245, rfl⟩
abbrev main_v166 : Ref sig .tc := ⟨.hbm, 246, rfl⟩
abbrev main_v167 : Ref sig .tc := ⟨.hbm, 247, rfl⟩

abbrev nD : Nat := 1
abbrev τ : Topo := Topo.v7x

variable {F : FTy → Type} [FloatOps F]
-- ==== Proof.Consts.lean ====
module

public import Idealize.ShloMosaic.Lib.IdealHost

@[expose] public section

/-! The float constants of the two programs as real numbers. -/

namespace Hog

open Idealize.ShloMosaic

/-- The f32 number nearest to π, as a rational. -/
noncomputable def piF : ℝ := 13176795 / 4194304

/-- The f32 pattern `0x40490FDB` is that rational. -/
theorem f32_pi : Ideal.ofBits .f32 0x40490FDB#32 = ((piF : ℝ) : EReal) := by
  simp [Ideal.ofBits, Ideal.ieee, -EReal.coe_mul, piF]; norm_num

/-- The f32 pattern `0x41200000` is ten. -/
theorem f32_ten : Ideal.ofBits .f32 0x41200000#32 = ((10 : ℝ) : EReal) := by
  simp [Ideal.ofBits, Ideal.ieee, -EReal.coe_mul]; norm_num

/-- The f32 pattern `0x3F800000` is one, as a real. -/
theorem f32_one : Ideal.ofBits .f32 0x3F800000#32 = ((1 : ℝ) : EReal) := by
  simp [Ideal.ofBits, Ideal.ieee, -EReal.coe_mul]; norm_num

/-- The f32 pattern `0x40000000` is two. -/
theorem f32_two : Ideal.ofBits .f32 0x40000000#32 = ((2 : ℝ) : EReal) := by
  simp [Ideal.ofBits, Ideal.ieee, -EReal.coe_mul]; norm_num

/-- The f32 pattern `0xBF800000` is minus one. -/
theorem f32_neg_one : Ideal.ofBits .f32 0xBF800000#32 = ((-1 : ℝ) : EReal) := by
  simp [Ideal.ofBits, Ideal.ieee, -EReal.coe_mul, -EReal.coe_neg]; norm_num

/-- The f32 pattern `0xC0000000` is minus two. -/
theorem f32_neg_two : Ideal.ofBits .f32 0xC0000000#32 = ((-2 : ℝ) : EReal) := by
  simp [Ideal.ofBits, Ideal.ieee, -EReal.coe_mul, -EReal.coe_neg]; norm_num

/-- The f32 pattern `0x3E000000` is an eighth. -/
theorem f32_eighth : Ideal.ofBits .f32 0x3E000000#32 = ((1 / 8 : ℝ) : EReal) := by
  simp [Ideal.ofBits, Ideal.ieee, -EReal.coe_mul]; norm_num

/-- The f32 pattern `0x42800000` is sixty-four. -/
theorem f32_sixtyfour : Ideal.ofBits .f32 0x42800000#32 = ((64 : ℝ) : EReal) := by
  simp [Ideal.ofBits, Ideal.ieee, -EReal.coe_mul]; norm_num

/-- The bf16 pattern `0x4120` is ten. -/
theorem bf16_ten : Ideal.ofBits .bf16 0x4120#16 = ((10 : ℝ) : EReal) := by
  simp [Ideal.ofBits, Ideal.ieee, -EReal.coe_mul]; norm_num

/-- The bf16 pattern `0x3F80` is one, as a real. -/
theorem bf16_one : Ideal.ofBits .bf16 0x3F80#16 = ((1 : ℝ) : EReal) := by
  simp [Ideal.ofBits, Ideal.ieee, -EReal.coe_mul]; norm_num

/-- The bf16 pattern `0x4000` is two. -/
theorem bf16_two : Ideal.ofBits .bf16 0x4000#16 = ((2 : ℝ) : EReal) := by
  simp [Ideal.ofBits, Ideal.ieee, -EReal.coe_mul]; norm_num

/-- The bf16 pattern `0x4040` is three. -/
theorem bf16_three : Ideal.ofBits .bf16 0x4040#16 = ((3 : ℝ) : EReal) := by
  simp [Ideal.ofBits, Ideal.ieee, -EReal.coe_mul]; norm_num

/-- The bf16 pattern `0x4080` is four. -/
theorem bf16_four : Ideal.ofBits .bf16 0x4080#16 = ((4 : ℝ) : EReal) := by
  simp [Ideal.ofBits, Ideal.ieee, -EReal.coe_mul]; norm_num

/-- The bf16 pattern `0x40A0` is five. -/
theorem bf16_five : Ideal.ofBits .bf16 0x40A0#16 = ((5 : ℝ) : EReal) := by
  simp [Ideal.ofBits, Ideal.ieee, -EReal.coe_mul]; norm_num

/-- The bf16 pattern `0x40C0` is six. -/
theorem bf16_six : Ideal.ofBits .bf16 0x40C0#16 = ((6 : ℝ) : EReal) := by
  simp [Ideal.ofBits, Ideal.ieee, -EReal.coe_mul]; norm_num

/-- The bf16 pattern `0x40E0` is seven. -/
theorem bf16_seven : Ideal.ofBits .bf16 0x40E0#16 = ((7 : ℝ) : EReal) := by
  simp [Ideal.ofBits, Ideal.ieee, -EReal.coe_mul]; norm_num

/-- The bf16 pattern `0x4100` is eight. -/
theorem bf16_eight : Ideal.ofBits .bf16 0x4100#16 = ((8 : ℝ) : EReal) := by
  simp [Ideal.ofBits, Ideal.ieee, -EReal.coe_mul]; norm_num

end Hog

end
-- ==== Proof.PiBound.lean ====
module

public import proofs.«01_k».proof.Proof.Consts
public import Mathlib.Analysis.SpecialFunctions.Trigonometric.Basic

@[expose] public section

/-! The f32 number nearest to π lies above π. -/

namespace Hog

open Complex Finset

/-- The first twelve terms of the exponential series at `x * I`. -/
theorem exp_series (x : ℝ) :
    (∑ m ∈ range 12, ((x : ℂ) * I) ^ m / (m.factorial : ℂ)).im
      = x - x ^ 3 / 6 + x ^ 5 / 120 - x ^ 7 / 5040 + x ^ 9 / 362880 - x ^ 11 / 39916800 := by
  have i2 : I ^ 2 = -1 := I_sq
  have i3 : I ^ 3 = -I := by rw [pow_succ, i2]; ring
  have i4 : I ^ 4 = 1 := by rw [pow_succ, i3, neg_mul, I_mul_I]; ring
  have i5 : I ^ 5 = I := by rw [pow_succ, i4, one_mul]
  have i6 : I ^ 6 = -1 := by rw [pow_succ, i5, I_mul_I]
  have i7 : I ^ 7 = -I := by rw [pow_succ, i6]; ring
  have i8 : I ^ 8 = 1 := by rw [pow_succ, i7, neg_mul, I_mul_I]; ring
  have i9 : I ^ 9 = I := by rw [pow_succ, i8, one_mul]
  have i10 : I ^ 10 = -1 := by rw [pow_succ, i9, I_mul_I]
  have i11 : I ^ 11 = -I := by rw [pow_succ, i10]; ring
  have e : (∑ m ∈ range 12, ((x : ℂ) * I) ^ m / (m.factorial : ℂ))
      = ((1 - x ^ 2 / 2 + x ^ 4 / 24 - x ^ 6 / 720 + x ^ 8 / 40320 - x ^ 10 / 3628800 : ℝ) : ℂ)
        + ((x - x ^ 3 / 6 + x ^ 5 / 120 - x ^ 7 / 5040 + x ^ 9 / 362880 - x ^ 11 / 39916800 : ℝ) : ℂ) * I := by
    simp only [sum_range_succ, sum_range_zero, mul_pow, i2, i3, i4, i5, i6, i7, i8, i9, i10, i11,
      Nat.factorial, Nat.succ_eq_add_one]
    push_cast
    ring
  rw [e, add_im, ofReal_im, zero_add, im_ofReal_mul, I_im, mul_one]

/-- A bound on the sine from below by the first terms of its series. -/
theorem sin_lower {x : ℝ} (h0 : 0 ≤ x) (h1 : x ≤ 1) :
    x - x ^ 3 / 6 + x ^ 5 / 120 - x ^ 7 / 5040 + x ^ 9 / 362880 - x ^ 11 / 39916800
      - x ^ 12 * (13 * (479001600 * 12)⁻¹) ≤ Real.sin x := by
  have hn : ‖(x : ℂ) * I‖ = x := by
    rw [norm_mul, norm_I, mul_one, norm_real, Real.norm_eq_abs, abs_of_nonneg h0]
  have h := Complex.exp_bound (x := (x : ℂ) * I) (by rw [hn]; exact h1) (n := 12) (by norm_num)
  have h2 := (abs_im_le_norm _).trans h
  rw [sub_im, exp_series, exp_ofReal_mul_I_im, hn] at h2
  have h3 := (abs_le.mp h2).1
  have e12 : ((12 : ℕ).factorial : ℝ) = 479001600 := by norm_num [Nat.factorial]
  rw [e12] at h3
  norm_num at h3 ⊢
  linarith

/-- π lies below the f32 number nearest to it. -/
theorem pi_lt_piF : Real.pi < piF := by
  have hs : (1 : ℝ) / 2 < Real.sin (piF / 6) :=
    lt_of_lt_of_le (by unfold piF; norm_num)
      (sin_lower (x := piF / 6) (by unfold piF; norm_num) (by unfold piF; norm_num))
  rw [← Real.sin_pi_div_six] at hs
  by_contra hle
  have hle' : piF ≤ Real.pi := not_lt.mp hle
  have hp := Real.pi_pos
  have h0 : 0 ≤ piF := by unfold piF; norm_num
  exact absurd (Real.sin_le_sin_of_le_of_le_pi_div_two (x := piF / 6) (y := Real.pi / 6)
    (by linarith) (by linarith) (by linarith)) (not_le.mpr hs)

end Hog

end
-- ==== Proof.Sobel.lean ====
module

public import proofs.«01_k».proof.Proof.PiBound
public import Mathlib.Analysis.SpecialFunctions.Trigonometric.Arctan

@[expose] public section

/-! The histogram of oriented gradients of one image, over the reals: the two gradients, the length
and the direction of a gradient, the two votes of a pixel, and the mean of the votes over a cell. -/

namespace Hog

open scoped BigOperators

/-- A row of 512 numbers with a zero put before it and zeros after it. -/
noncomputable def line (x : Fin 512 → ℝ) (n : ℕ) : ℝ :=
  if h : 1 ≤ n ∧ n < 513 then x ⟨n - 1, by omega⟩ else 0

/-- An image inside a border of zeros: pixel `(i, j)` sits at `(i + 1, j + 1)`. -/
noncomputable def pix (x : Fin 512 → Fin 512 → ℝ) (i j : ℕ) : ℝ := line (fun a => line (x a) j) i

/-- Three neighbours down a column, weighted one, two, one. -/
noncomputable def down (x : Fin 512 → Fin 512 → ℝ) (i j : ℕ) : ℝ :=
  pix x i j + 2 * pix x (i + 1) j + pix x (i + 2) j

/-- Three neighbours along a row, weighted one, two, one. -/
noncomputable def along (x : Fin 512 → Fin 512 → ℝ) (i j : ℕ) : ℝ :=
  pix x i j + 2 * pix x i (j + 1) + pix x i (j + 2)

/-- The gradient across the columns. -/
noncomputable def gradX (x : Fin 512 → Fin 512 → ℝ) (i j : ℕ) : ℝ := down x i j - down x i (j + 2)

/-- The gradient across the rows. -/
noncomputable def gradY (x : Fin 512 → Fin 512 → ℝ) (i j : ℕ) : ℝ := along x i j - along x (i + 2) j

/-- The length of the gradient. -/
noncomputable def mag (x : Fin 512 → Fin 512 → ℝ) (i j : ℕ) : ℝ :=
  √(gradX x i j * gradX x i j + gradY x i j * gradY x i j)

/-- The direction of the vector whose coordinates are `x` and `y`. -/
noncomputable def angle (y x : ℝ) : ℝ :=
  if 0 < x then Real.arctan (y / x)
  else if x < 0 then (if 0 ≤ y then Real.arctan (y / x) + Real.pi else Real.arctan (y / x) - Real.pi)
  else if 0 < y then Real.pi / 2 else if y < 0 then -(Real.pi / 2) else 0

/-- The direction of the gradient, counted in tenths of the f32 number nearest to π. -/
noncomputable def turn (x : Fin 512 → Fin 512 → ℝ) (i j : ℕ) : ℝ :=
  angle (gradX x i j) (gradY x i j) * (1 / piF) * 10

/-- What a pixel of gradient length `m` gives to bin `k`: the length when its first direction is
`k` modulo ten, and what the length lacks of one when its second direction is. -/
noncomputable def vote (m : ℝ) (f c : ℤ) (k : ℕ) : ℝ :=
  (if f % 10 = (k : ℤ) then m else 0) + (if c % 10 = (k : ℤ) then 1 - m else 0)

/-- What pixel `(i, j)` gives to bin `k`. -/
noncomputable def bin (x : Fin 512 → Fin 512 → ℝ) (k i j : ℕ) : ℝ :=
  vote (mag x i j) ⌊turn x i j⌋ ⌈turn x i j⌉ k

/-- The mean of `f` over the cell `(a, b)` of eight by eight pixels. -/
noncomputable def mean (f : ℕ → ℕ → ℝ) (a b : ℕ) : ℝ :=
  (∑ u : Fin 8, ∑ v : Fin 8, f (8 * a + u) (8 * b + v)) / 64

/-- Bin `k` of the cell `(a, b)`. -/
noncomputable def cell (x : Fin 512 → Fin 512 → ℝ) (k a b : ℕ) : ℝ := mean (bin x k) a b

/-- The sum that keeps the entry one before `n` is the padded row at `n`. -/
theorem sum_line (x : Fin 512 → ℝ) (n : ℕ) :
    (∑ k : Fin 512, if (k : ℕ) + 1 = n then x k else 0) = line x n := by
  unfold line
  by_cases h : 1 ≤ n ∧ n < 513
  · rw [dif_pos h, Finset.sum_eq_single (⟨n - 1, by omega⟩ : Fin 512)]
    · rw [if_pos (by show n - 1 + 1 = n; omega)]
    · intro b _ hb
      refine if_neg fun e => hb (Fin.ext ?_)
      show (b : ℕ) = n - 1
      omega
    · intro h'
      exact absurd (Finset.mem_univ _) h'
  · rw [dif_neg h]
    exact Finset.sum_eq_zero fun k _ => if_neg fun e => h (by omega)

/-- The entry of the band matrix: two on the diagonal, one beside it. -/
noncomputable def band (i k : ℕ) : ℝ := if i = k then 2 else if i + 1 = k ∨ k + 1 = i then 1 else 0

/-- The band matrix is symmetric. -/
theorem band_symm (i k : ℕ) : band i k = band k i := by
  unfold band
  split_ifs <;> first | rfl | (exfalso; omega)

/-- A row times the band matrix weighs three neighbours one, two, one. -/
theorem sum_band (x : Fin 512 → ℝ) (i : ℕ) :
    (∑ k : Fin 512, band i k * x k) = line x i + 2 * line x (i + 1) + line x (i + 2) := by
  rw [← sum_line x i, ← sum_line x (i + 1), ← sum_line x (i + 2), Finset.mul_sum,
    ← Finset.sum_add_distrib, ← Finset.sum_add_distrib]
  refine Finset.sum_congr rfl fun k _ => ?_
  unfold band
  rcases Nat.lt_trichotomy i k with h | h | h
  · by_cases h1 : i + 1 = k
    · rw [if_neg (by omega), if_pos (by omega), if_neg (by omega), if_neg (by omega),
        if_pos (by omega)]; ring
    · rw [if_neg (by omega), if_neg (by omega), if_neg (by omega), if_neg (by omega),
        if_neg (by omega)]; ring
  · rw [if_pos h, if_neg (by omega), if_pos (by omega), if_neg (by omega)]; ring
  · by_cases h1 : (k : ℕ) + 1 = i
    · rw [if_neg (by omega), if_pos (by omega), if_pos (by omega), if_neg (by omega),
        if_neg (by omega)]; ring
    · rw [if_neg (by omega), if_neg (by omega), if_neg (by omega), if_neg (by omega),
        if_neg (by omega)]; ring

/-- A padded row at one past a position is the row there. -/
theorem line_succ (x : Fin 512 → ℝ) (n : Fin 512) : line x ((n : ℕ) + 1) = x n := by
  unfold line
  rw [dif_pos (by have := n.2; omega)]
  rfl

/-- A padded row is zero outside. -/
theorem line_out (x : Fin 512 → ℝ) {n : ℕ} (h : n = 0 ∨ 513 ≤ n) : line x n = 0 := by
  unfold line
  rw [dif_neg (by omega)]

/-- A padded row of zeros is zero. -/
theorem line_zero (n : ℕ) : line (fun _ => 0) n = 0 := by
  unfold line; split_ifs <;> rfl

/-- The padded image at one past a column. -/
theorem pix_col (x : Fin 512 → Fin 512 → ℝ) (i : ℕ) (j : Fin 512) :
    pix x i ((j : ℕ) + 1) = line (fun a => x a j) i := by
  unfold pix
  simp only [line_succ]

/-- The padded image at one past a row. -/
theorem pix_row (x : Fin 512 → Fin 512 → ℝ) (i : Fin 512) (j : ℕ) : pix x ((i : ℕ) + 1) j = line (x i) j :=
  line_succ _ i

/-- The band matrix times the image weighs three rows, one, two, one. -/
theorem band_rows (x : Fin 512 → Fin 512 → ℝ) (i : ℕ) (j : Fin 512) :
    (∑ k : Fin 512, band i k * x k j) = down x i ((j : ℕ) + 1) := by
  unfold down
  rw [sum_band (fun k => x k j) i, pix_col, pix_col, pix_col]

/-- The image times the band matrix weighs three columns, one, two, one. -/
theorem band_cols (x : Fin 512 → Fin 512 → ℝ) (i : Fin 512) (j : ℕ) :
    (∑ k : Fin 512, x i k * band k j) = along x ((i : ℕ) + 1) j := by
  unfold along
  rw [pix_row, pix_row, pix_row, ← sum_band (x i) j]
  exact Finset.sum_congr rfl fun k _ => by rw [band_symm, mul_comm]

/-- Outside the columns the weighted rows are zero. -/
theorem down_out (x : Fin 512 → Fin 512 → ℝ) (i : ℕ) {j : ℕ} (h : j = 0 ∨ 513 ≤ j) : down x i j = 0 := by
  unfold down pix
  simp only [line_out _ h, line_zero]
  norm_num

/-- Outside the rows the weighted columns are zero. -/
theorem along_out (x : Fin 512 → Fin 512 → ℝ) {i : ℕ} (j : ℕ) (h : i = 0 ∨ 513 ≤ i) : along x i j = 0 := by
  unfold along pix
  simp only [line_out _ h]
  norm_num

/-- A direction is at most π on either side. -/
theorem angle_abs_le (y x : ℝ) : |angle y x| ≤ Real.pi := by
  have hp := Real.pi_pos
  have h1 := Real.neg_pi_div_two_lt_arctan (y / x)
  have h2 := Real.arctan_lt_pi_div_two (y / x)
  unfold angle
  rw [abs_le]
  split_ifs with hx hx' hy hy hy'
  · constructor <;> linarith
  · have h3 : Real.arctan (y / x) ≤ 0 := by
      rw [← Real.arctan_zero]
      exact Real.arctan_strictMono.monotone (div_nonpos_of_nonneg_of_nonpos hy hx'.le)
    constructor <;> linarith
  · have h3 : 0 ≤ Real.arctan (y / x) := by
      rw [← Real.arctan_zero]
      exact Real.arctan_strictMono.monotone (div_nonneg_of_nonpos (not_le.mp hy).le hx'.le)
    constructor <;> linarith
  · constructor <;> linarith
  · constructor <;> linarith
  · constructor <;> linarith

/-- The f32 number nearest to π is positive. -/
theorem piF_pos : 0 < piF := Real.pi_pos.trans pi_lt_piF

/-- A direction counted in tenths of it is at most ten on either side. -/
theorem turn_abs_le (x : Fin 512 → Fin 512 → ℝ) (i j : ℕ) : |turn x i j| ≤ 10 := by
  have h := (angle_abs_le (gradX x i j) (gradY x i j)).trans pi_lt_piF.le
  have hp := piF_pos
  unfold turn
  rw [abs_mul, abs_mul, abs_of_pos (by positivity : (0 : ℝ) < 1 / piF), abs_of_pos (by norm_num : (0 : ℝ) < 10)]
  have : |angle (gradX x i j) (gradY x i j)| * (1 / piF) ≤ 1 := by
    rw [mul_one_div]
    exact (div_le_one hp).mpr h
  linarith

/-- The whole number below a direction lies between minus ten and ten. -/
theorem floor_turn (x : Fin 512 → Fin 512 → ℝ) (i j : ℕ) : -10 ≤ ⌊turn x i j⌋ ∧ ⌊turn x i j⌋ ≤ 10 := by
  obtain ⟨h1, h2⟩ := abs_le.mp (turn_abs_le x i j)
  refine ⟨Int.le_floor.mpr (by push_cast; exact h1), ?_⟩
  have := (Int.floor_le (turn x i j)).trans h2
  exact_mod_cast this

/-- The whole number above a direction lies between minus ten and ten. -/
theorem ceil_turn (x : Fin 512 → Fin 512 → ℝ) (i j : ℕ) : -10 ≤ ⌈turn x i j⌉ ∧ ⌈turn x i j⌉ ≤ 10 := by
  obtain ⟨h1, h2⟩ := abs_le.mp (turn_abs_le x i j)
  refine ⟨?_, Int.ceil_le.mpr (by push_cast; exact h2)⟩
  have := h1.trans (Int.le_ceil (turn x i j))
  exact_mod_cast this

/-- The ten bins of a pixel hold one in all. -/
theorem vote_sum (m : ℝ) (f c : ℤ) : (∑ k : Fin 10, vote m f c k) = 1 := by
  have key : ∀ (z : ℤ) (r : ℝ), (∑ k : Fin 10, if z % 10 = ((k : ℕ) : ℤ) then r else 0) = r := by
    intro z r
    have h0 := Int.emod_nonneg z (by norm_num : (10 : ℤ) ≠ 0)
    have h1 := Int.emod_lt_of_pos z (by norm_num : (0 : ℤ) < 10)
    rw [Finset.sum_eq_single (⟨(z % 10).toNat, by omega⟩ : Fin 10)]
    · rw [if_pos (by show z % 10 = (((z % 10).toNat : ℕ) : ℤ); omega)]
    · intro b _ hb
      refine if_neg fun e => hb (Fin.ext ?_)
      show (b : ℕ) = (z % 10).toNat
      omega
    · intro h'
      exact absurd (Finset.mem_univ _) h'
  unfold vote
  rw [Finset.sum_add_distrib, key, key]
  ring

/-- The tenth bin of a pixel is what the first nine lack of one. -/
theorem vote_last (m : ℝ) (f c : ℤ) :
    vote m f c 9 = 1 - (vote m f c 0 + vote m f c 1 + vote m f c 2 + vote m f c 3 + vote m f c 4
      + vote m f c 5 + vote m f c 6 + vote m f c 7 + vote m f c 8) := by
  have h := vote_sum m f c
  simp only [Fin.sum_univ_succ, Fin.sum_univ_zero] at h
  norm_num at h
  linarith

/-- The mean is additive. -/
theorem mean_add (f g : ℕ → ℕ → ℝ) (a b : ℕ) :
    mean (fun i j => f i j + g i j) a b = mean f a b + mean g a b := by
  unfold mean
  simp only [Finset.sum_add_distrib, add_div]

/-- The mean of what is lacking to one is what the mean lacks of one. -/
theorem mean_compl (f : ℕ → ℕ → ℝ) (a b : ℕ) : mean (fun i j => 1 - f i j) a b = 1 - mean f a b := by
  unfold mean
  simp only [Finset.sum_sub_distrib, sub_div]
  norm_num

/-- The tenth bin of a cell is what the first nine lack of one. -/
theorem cell_last (x : Fin 512 → Fin 512 → ℝ) (a b : ℕ) :
    cell x 9 a b = 1 - (cell x 0 a b + cell x 1 a b + cell x 2 a b + cell x 3 a b + cell x 4 a b
      + cell x 5 a b + cell x 6 a b + cell x 7 a b + cell x 8 a b) := by
  have e : bin x 9 = fun i j => 1 - (bin x 0 i j + bin x 1 i j + bin x 2 i j + bin x 3 i j
      + bin x 4 i j + bin x 5 i j + bin x 6 i j + bin x 7 i j + bin x 8 i j) := by
    funext i j; exact vote_last _ _ _
  unfold cell
  rw [e, mean_compl]
  simp only [mean_add]

/-- The entry of the pooling matrix: an eighth where the pixel's cell is `a`. -/
noncomputable def pool (p a : ℕ) : ℝ := if p / 8 = a then 1 / 8 else 0

/-- A row times the pooling matrix is the mean of eight neighbours. -/
theorem sum_pool (f : ℕ → ℝ) (a : Fin 64) :
    (∑ p : Fin 512, pool p a * f p) = (∑ u : Fin 8, f (8 * (a : ℕ) + u)) / 8 := by
  have e : (∑ p : Fin 512, pool p a * f p)
      = ∑ q : Fin 64 × Fin 8, pool (8 * (q.1 : ℕ) + q.2) a * f (8 * (q.1 : ℕ) + q.2) := by
    rw [← Equiv.sum_comp (finProdFinEquiv : Fin 64 × Fin 8 ≃ Fin 512)]
    refine Finset.sum_congr rfl fun q _ => ?_
    have : ((finProdFinEquiv q : Fin 512) : ℕ) = 8 * (q.1 : ℕ) + q.2 := by
      rw [finProdFinEquiv_apply_val]; ring
    rw [this]
  rw [e, Fintype.sum_prod_type, Finset.sum_eq_single a]
  · rw [Finset.sum_div]
    refine Finset.sum_congr rfl fun u _ => ?_
    unfold pool
    rw [if_pos (by have := u.2; dsimp only; omega)]
    ring
  · intro b _ hb
    refine Finset.sum_eq_zero fun u _ => ?_
    unfold pool
    rw [if_neg (by have := u.2; intro e; dsimp only at e; exact hb (Fin.ext (by omega))), zero_mul]
  · intro h'
    exact absurd (Finset.mem_univ _) h'

/-- Pooling the rows and then the columns is the mean over a cell. -/
theorem sum_pool_pool (f : ℕ → ℕ → ℝ) (a b : Fin 64) :
    (∑ q : Fin 512, (∑ p : Fin 512, pool p a * f p q) * pool q b) = mean f a b := by
  have h : ∀ q : Fin 512, (∑ p : Fin 512, pool p a * f p q) * pool q b
      = pool q b * ((∑ u : Fin 8, f (8 * (a : ℕ) + u) q) / 8) := fun q => by
    rw [sum_pool (fun p => f p q) a, mul_comm]
  rw [Finset.sum_congr rfl fun q _ => h q,
    sum_pool (fun q => (∑ u : Fin 8, f (8 * (a : ℕ) + u) q) / 8) b]
  unfold mean
  rw [Finset.sum_comm (s := (Finset.univ : Finset (Fin 8))), ← Finset.sum_div, div_div]
  norm_num

end Hog

end
-- ==== Proof.Ops.lean ====
module

public import proofs.«01_k».proof.Proof.Sobel

@[expose] public section

/-! The operations of the two programs on extended reals that hold real numbers. -/

namespace Hog

open Idealize.ShloMosaic
open scoped BigOperators

/-- A sum of real numbers, taken among the extended reals. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A choice between two real numbers, taken among the extended reals. -/
theorem coe_ite (p : Prop) [Decidable p] (r s : ℝ) :
    (if p then ((r : ℝ) : EReal) else ((s : ℝ) : EReal)) = ((if p then r else s : ℝ) : EReal) := by
  split_ifs <;> rfl

/-- The neighbour before a position, zero at the first. -/
theorem before_coe (g : ℕ → ℝ) (s : Fin 512 → ℝ) (hs : ∀ b : Fin 512, s b = g ((b : ℕ) + 1)) (h0 : g 0 = 0)
    (j : Fin 512) :
    (if h : (j : ℕ) < 1 then (0 : EReal) else ((s ⟨(j : ℕ) - 1, by have := j.2; omega⟩ : ℝ) : EReal))
      = ((g j : ℝ) : EReal) := by
  by_cases h : (j : ℕ) < 1
  · rw [dif_pos h, show (j : ℕ) = 0 by omega, h0, EReal.coe_zero]
  · rw [dif_neg h, hs]
    dsimp only
    rw [Nat.sub_add_cancel (by omega)]

/-- The neighbour after a position, zero at the last. -/
theorem after_coe (g : ℕ → ℝ) (s : Fin 512 → ℝ) (hs : ∀ b : Fin 512, s b = g ((b : ℕ) + 1)) (h0 : g 513 = 0)
    (j : Fin 512) :
    (if h : (j : ℕ) < 511 then ((s ⟨1 + (j : ℕ), by omega⟩ : ℝ) : EReal) else (0 : EReal))
      = ((g ((j : ℕ) + 2) : ℝ) : EReal) := by
  by_cases h : (j : ℕ) < 511
  · rw [dif_pos h, hs]
    dsimp only
    rw [show 1 + (j : ℕ) + 1 = (j : ℕ) + 2 by omega]
  · rw [dif_neg h, show (j : ℕ) + 2 = 513 by have := j.2; omega, h0, EReal.coe_zero]

/-- The direction of a real vector. -/
theorem atan2_coe (y x : ℝ) : Ideal.atan2 (y : EReal) (x : EReal) = ((angle y x : ℝ) : EReal) := rfl

/-- The direction of the gradient counted in tenths of the f32 number nearest to π, as computed. -/
theorem turn_coe (x : Fin 512 → Fin 512 → ℝ) (i j : ℕ) :
    Ideal.div (Ideal.atan2 ((gradX x i j : ℝ) : EReal) ((gradY x i j : ℝ) : EReal))
        (Ideal.ofBits .f32 0x40490FDB#32) * Ideal.ofBits .f32 0x41200000#32
      = ((turn x i j : ℝ) : EReal) := by
  rw [atan2_coe, f32_pi, f32_ten, Ideal.div_coe piF_pos.ne', ← EReal.coe_mul, ← EReal.coe_mul]
  rfl

/-- The root of a sum of two squares. -/
theorem mag_coe (x : Fin 512 → Fin 512 → ℝ) (i j : ℕ) :
    Ideal.sqrt (((gradX x i j : ℝ) : EReal) * ((gradX x i j : ℝ) : EReal)
        + ((gradY x i j : ℝ) : EReal) * ((gradY x i j : ℝ) : EReal)) = ((mag x i j : ℝ) : EReal) := by
  rw [← EReal.coe_mul, ← EReal.coe_mul, ← EReal.coe_add, Ideal.sqrt_coe, if_neg (not_lt.mpr (add_nonneg (mul_self_nonneg _) (mul_self_nonneg _)))]
  rfl

/-- The wrap by two comparisons, on a whole number between minus ten and ten. -/
theorem wrap_int {z : ℤ} (h1 : -10 ≤ z) (h2 : z ≤ 10) :
    (if (10 : ℤ) ≤ (if z < 0 then z + 10 else z) then (if z < 0 then z + 10 else z) - 10
      else (if z < 0 then z + 10 else z)) = z % 10 := by
  split_ifs <;> omega

/-- The wrap by two comparisons among the extended reals. -/
theorem wrap_coe {z : ℤ} (h1 : -10 ≤ z) (h2 : z ≤ 10) :
    (if Ideal.ofBits .bf16 0x4120#16 ≤
        (if (((z : ℤ) : ℝ) : EReal) < 0 then (((z : ℤ) : ℝ) : EReal) + Ideal.ofBits .bf16 0x4120#16
          else (((z : ℤ) : ℝ) : EReal)) then
      (if (((z : ℤ) : ℝ) : EReal) < 0 then (((z : ℤ) : ℝ) : EReal) + Ideal.ofBits .bf16 0x4120#16
          else (((z : ℤ) : ℝ) : EReal)) - Ideal.ofBits .bf16 0x4120#16
      else (if (((z : ℤ) : ℝ) : EReal) < 0 then (((z : ℤ) : ℝ) : EReal) + Ideal.ofBits .bf16 0x4120#16
          else (((z : ℤ) : ℝ) : EReal))) = (((z % 10 : ℤ) : ℝ) : EReal) := by
  have e1 : (if (((z : ℤ) : ℝ) : EReal) < 0 then (((z : ℤ) : ℝ) : EReal) + ((10 : ℝ) : EReal)
      else (((z : ℤ) : ℝ) : EReal)) = ((((if z < 0 then z + 10 else z : ℤ)) : ℝ) : EReal) := by
    have : (((z : ℤ) : ℝ) : EReal) < 0 ↔ z < 0 := by
      rw [← EReal.coe_zero, EReal.coe_lt_coe_iff]
      exact_mod_cast Iff.rfl
    by_cases h : z < 0
    · rw [if_pos (this.mpr h), if_pos h, ← EReal.coe_add]
      push_cast
      rfl
    · rw [if_neg fun e => h (this.mp e), if_neg h]
  rw [bf16_ten, e1, ← wrap_int h1 h2]
  generalize (if z < 0 then z + 10 else z) = y
  have : ((10 : ℝ) : EReal) ≤ (((y : ℤ) : ℝ) : EReal) ↔ (10 : ℤ) ≤ y := by
    rw [EReal.coe_le_coe_iff]
    exact_mod_cast Iff.rfl
  by_cases h : (10 : ℤ) ≤ y
  · rw [if_pos (this.mpr h), if_pos h, ← EReal.coe_sub]
    push_cast
    rfl
  · rw [if_neg fun e => h (this.mp e), if_neg h]

/-- The remainder toward zero by ten, on a whole number between minus ten and ten. -/
theorem trunc_int {z : ℤ} (h1 : -10 ≤ z) (h2 : z ≤ 10) :
    z - 10 * Ideal.truncInt ((z : ℝ) / 10) = if z = 10 then 0 else if z = -10 then 0 else z := by
  unfold Ideal.truncInt
  by_cases h0 : (0 : ℤ) ≤ z
  · have h0' : (0 : ℝ) ≤ (z : ℝ) := by exact_mod_cast h0
    have h2' : (z : ℝ) ≤ 10 := by exact_mod_cast h2
    rw [if_pos (by positivity)]
    by_cases h : z = 10
    · subst h; norm_num
    · have h3 : (z : ℝ) < 10 := by exact_mod_cast lt_of_le_of_ne h2 h
      have : ⌊(z : ℝ) / 10⌋ = 0 := Int.floor_eq_iff.mpr ⟨by push_cast; positivity, by push_cast; linarith⟩
      rw [this, if_neg h, if_neg (by omega)]; ring
  · have h0' : (z : ℝ) < 0 := by exact_mod_cast not_le.mp h0
    have h1' : (-10 : ℝ) ≤ (z : ℝ) := by exact_mod_cast h1
    rw [if_neg (by rw [not_le]; linarith)]
    by_cases h : z = -10
    · subst h; norm_num
    · have h3 : (-10 : ℝ) < (z : ℝ) := by exact_mod_cast lt_of_le_of_ne h1 (Ne.symm h)
      have : ⌈(z : ℝ) / 10⌉ = 0 := Int.ceil_eq_iff.mpr ⟨by push_cast; linarith, by push_cast; linarith⟩
      rw [this, if_neg (by omega), if_neg h]; ring

/-- The remainder toward zero by ten, as computed. -/
theorem remf_ten {z : ℤ} (h1 : -10 ≤ z) (h2 : z ≤ 10) :
    Ideal.remf (((z : ℤ) : ℝ) : EReal) ((10 : ℝ) : EReal)
      = (((if z = 10 then 0 else if z = -10 then 0 else z : ℤ) : ℝ) : EReal) := by
  rw [Ideal.remf_coe, if_neg (by norm_num), ← trunc_int h1 h2]
  push_cast
  rfl

/-- The wrap by a remainder, as a 32-bit word: a whole number between minus ten and ten modulo ten. -/
theorem mod_word {z : ℤ} (h1 : -10 ≤ z) (h2 : z ≤ 10) :
    FloatOps.fptosi (F := Ideal) (φ := .f32) 32
      (Scalar.select
        (IntOp.andi
          (IntOp.cmpi CmpIPredicate.ne
            (BitVec.ofBool (decide (Ideal.remf (((z : ℤ) : ℝ) : EReal)
              (FloatOps.sitofp (F := Ideal) FTy.f32 10#32) < 0)))
            (BitVec.ofBool (decide ((FloatOps.sitofp (F := Ideal) FTy.f32 10#32 : EReal) < 0))))
          (BitVec.ofBool (decide (Ideal.remf (((z : ℤ) : ℝ) : EReal)
            (FloatOps.sitofp (F := Ideal) FTy.f32 10#32) ≠ 0))))
        (Ideal.remf (((z : ℤ) : ℝ) : EReal) (FloatOps.sitofp (F := Ideal) FTy.f32 10#32)
          + FloatOps.sitofp (F := Ideal) FTy.f32 10#32)
        (Ideal.remf (((z : ℤ) : ℝ) : EReal) (FloatOps.sitofp (F := Ideal) FTy.f32 10#32)) : EReal)
      = BitVec.ofInt 32 (z % 10) := by
  have e10 : (FloatOps.sitofp (F := Ideal) FTy.f32 10#32 : EReal) = ((10 : ℝ) : EReal) := by
    show (((10#32 : BitVec 32).toInt : ℝ) : EReal) = _
    rw [show (10#32 : BitVec 32).toInt = 10 by decide]
    norm_num
  have c10 : decide (((10 : ℝ) : EReal) < 0) = false := by
    refine decide_eq_false ?_
    rw [← EReal.coe_zero, EReal.coe_lt_coe_iff]; norm_num
  rw [e10, remf_ten h1 h2, c10]
  set w : ℤ := (if z = 10 then 0 else if z = -10 then 0 else z) with hw
  have c1 : decide ((((w : ℤ) : ℝ) : EReal) < 0) = decide (w < 0) := by
    refine decide_eq_decide.mpr ?_
    rw [← EReal.coe_zero, EReal.coe_lt_coe_iff]
    exact_mod_cast Iff.rfl
  have c2 : decide ((((w : ℤ) : ℝ) : EReal) ≠ 0) = decide (w ≠ 0) := by
    refine decide_eq_decide.mpr (not_congr ?_)
    rw [← EReal.coe_zero, EReal.coe_eq_coe_iff]
    exact_mod_cast Iff.rfl
  rw [c1, c2]
  have hsel : Scalar.select
      (IntOp.andi (IntOp.cmpi CmpIPredicate.ne (BitVec.ofBool (decide (w < 0))) (BitVec.ofBool false))
        (BitVec.ofBool (decide (w ≠ 0))))
      ((((w : ℤ) : ℝ) : EReal) + ((10 : ℝ) : EReal)) (((w : ℤ) : ℝ) : EReal)
      = (((z % 10 : ℤ) : ℝ) : EReal) := by
    by_cases hneg : w < 0
    · have : w ≠ 0 := hneg.ne
      have e : z % 10 = w + 10 := by rw [hw] at hneg ⊢; split_ifs at hneg ⊢ <;> omega
      rw [decide_eq_true hneg, decide_eq_true this, e]
      push_cast
      rfl
    · have e : z % 10 = w := by rw [hw] at hneg ⊢; split_ifs at hneg ⊢ <;> omega
      rw [decide_eq_false hneg, e]
      by_cases h0 : w = 0
      · rw [h0]; rfl
      · rw [decide_eq_true h0]; rfl
  rw [hsel]
  have h0 := Int.emod_nonneg z (by norm_num : (10 : ℤ) ≠ 0)
  have h3 := Int.emod_lt_of_pos z (by norm_num : (0 : ℤ) < 10)
  show BitVec.ofInt 32 (Ideal.toIntClamped _ _ _) = _
  rw [Ideal.toIntClamped_coe, if_pos (by exact_mod_cast h0), Int.floor_intCast]
  congr 1
  norm_num
  omega

/-- A whole number equals the number of a bin among the extended reals exactly when it does. -/
theorem eq_bin (z : ℤ) (k : ℕ) :
    ((((z : ℤ) : ℝ) : EReal) = ((k : ℝ) : EReal)) ↔ z = (k : ℤ) := by
  rw [EReal.coe_eq_coe_iff]
  exact_mod_cast Iff.rfl

/-- The two votes of a pixel for the bin whose number is `K`, as computed. -/
theorem vote_coe (m : ℝ) (f c : ℤ) (k : ℕ) {K : EReal} (hK : K = ((k : ℝ) : EReal)) :
    ((if (((f % 10 : ℤ) : ℝ) : EReal) = K then ((m : ℝ) : EReal) else 0)
      + if (((c % 10 : ℤ) : ℝ) : EReal) = K then 1 - ((m : ℝ) : EReal) else 0)
      = ((vote m f c k : ℝ) : EReal) := by
  unfold vote
  rw [hK, if_congr (eq_bin _ _) rfl rfl, if_congr (eq_bin _ _) rfl rfl, EReal.coe_add, ← coe_ite, ← coe_ite,
    EReal.coe_sub, EReal.coe_zero, EReal.coe_one]

/-- Pooling the rows and then the columns, as computed. -/
theorem pool_coe (f : ℕ → ℕ → ℝ) (a b : Fin 64) :
    (∑ q : Fin 512, (∑ p : Fin 512, ((pool p a : ℝ) : EReal) * ((f p q : ℝ) : EReal)) * ((pool q b : ℝ) : EReal))
      = ((mean f a b : ℝ) : EReal) := by
  simp only [← EReal.coe_mul, coe_sum]
  rw [sum_pool_pool]

/-- The bin `K` of a cell, as computed from the votes. -/
theorem cell_coe (x : Fin 512 → Fin 512 → ℝ) (k : ℕ) {K : EReal} (hK : K = ((k : ℝ) : EReal)) (a b : Fin 64) :
    (∑ q : Fin 512, (∑ p : Fin 512, ((pool p a : ℝ) : EReal)
        * ((if (((⌊turn x p q⌋ % 10 : ℤ) : ℝ) : EReal) = K then ((mag x p q : ℝ) : EReal) else 0)
          + if (((⌈turn x p q⌉ % 10 : ℤ) : ℝ) : EReal) = K then 1 - ((mag x p q : ℝ) : EReal) else 0))
      * ((pool q b : ℝ) : EReal)) = ((cell x k a b : ℝ) : EReal) := by
  simp only [vote_coe _ _ _ k hK]
  exact pool_coe (bin x k) a b

end Hog

end
-- ==== Proof.Inputs.lean ====
module

public import proofs.«01_k».proof.Proof.Ops
public import proofs.«01_k».proof.Proof.Gen.KernelIdeal.Value
public import Idealize.ShloMosaic.Lib.Pointwise
public import Idealize.ShloMosaic.Lib.StableHlo.ReadAt

@[expose] public section

/-! The three arrays the kernel reads: the images, the band matrix and the pooling matrix. -/

set_option maxRecDepth 16384

namespace Hog

open Idealize.ShloMosaic Idealize.ShloMosaic.TcCoe Cert.KernelIdeal Cert.KernelIdeal.Gen

variable (m : (ℓ : Loc nD τ sig) → Buf (Elt Ideal) ℓ) (c : Dev nD)

/-- The images as the kernel reads them: one channel, so one matrix per sample. -/
theorem V_img (b : Fin 32) (i j : Fin 512) :
    Gen.V m c main_v0 (ix3 b i j) = m ((c : Thread nD τ).loc main_arg0) (ix4 b 0 i j) := by
  simp only [Gen.V, List.flatten_cons, List.flatten_nil, List.append_nil, hostOps0, hostOps0_1, hostOps0_2,
    hostOps0_3, hostOps0_4, hostOps0_5, hostOps0_6, hostOps0_7, hostOps0_8, List.cons_append, List.nil_append]
  after_reads_at

/-- A difference of two row numbers is the zero word exactly when they are equal. -/
theorem sub_word_zero (i j : Fin 512) :
    IntOp.cmpi CmpIPredicate.eq (IntOp.subi (BitVec.ofNat 32 i) (BitVec.ofNat 32 j)) 0#32
      = BitVec.ofBool (decide ((i : ℕ) = j)) := by
  have : (BitVec.ofNat 32 (i : ℕ) - BitVec.ofNat 32 (j : ℕ) = 0#32) ↔ (i : ℕ) = j := by
    rw [BitVec.sub_eq_iff_eq_add, BitVec.zero_add, ← BitVec.toNat_inj, BitVec.toNat_ofNat, BitVec.toNat_ofNat,
      Nat.mod_eq_of_lt (by have := i.2; omega), Nat.mod_eq_of_lt (by have := j.2; omega)]
  show BitVec.ofBool (decide (BitVec.ofNat 32 (i : ℕ) - BitVec.ofNat 32 (j : ℕ) = 0#32)) = _
  rw [decide_eq_decide.mpr this]

/-- The size of a small word is one exactly when the word is one. -/
theorem abs_word_pos : ∀ d : Fin 512,
    IntOp.cmpi CmpIPredicate.eq (IntOp.absi (BitVec.ofNat 32 d)) 1#32 = BitVec.ofBool (decide ((d : ℕ) = 1)) := by
  decide +kernel

/-- The size of a small negative word is one exactly when the word is minus one. -/
theorem abs_word_neg : ∀ d : Fin 512,
    IntOp.cmpi CmpIPredicate.eq (IntOp.absi (0#32 - BitVec.ofNat 32 d)) 1#32 = BitVec.ofBool (decide ((d : ℕ) = 1)) := by
  decide +kernel

/-- The size of a difference of two row numbers is one exactly when they are neighbours. -/
theorem sub_word_one (i j : Fin 512) :
    IntOp.cmpi CmpIPredicate.eq (IntOp.absi (IntOp.subi (BitVec.ofNat 32 i) (BitVec.ofNat 32 j))) 1#32
      = BitVec.ofBool (decide ((i : ℕ) + 1 = j ∨ (j : ℕ) + 1 = i)) := by
  have hi := i.2
  have hj := j.2
  rcases Nat.le_total (j : ℕ) (i : ℕ) with h | h
  · have e : IntOp.subi (BitVec.ofNat 32 (i : ℕ)) (BitVec.ofNat 32 (j : ℕ)) = BitVec.ofNat 32 ((i : ℕ) - j) := by
      show BitVec.ofNat 32 (i : ℕ) - BitVec.ofNat 32 (j : ℕ) = _
      rw [BitVec.sub_eq_iff_eq_add, ← BitVec.ofNat_add, Nat.sub_add_cancel h]
    rw [e, abs_word_pos ⟨(i : ℕ) - j, by omega⟩]
    congr 1
    exact decide_eq_decide.mpr (by dsimp only; omega)
  · have e : IntOp.subi (BitVec.ofNat 32 (i : ℕ)) (BitVec.ofNat 32 (j : ℕ)) = 0#32 - BitVec.ofNat 32 ((j : ℕ) - i) := by
      show BitVec.ofNat 32 (i : ℕ) - BitVec.ofNat 32 (j : ℕ) = _
      have : BitVec.ofNat 32 (j : ℕ) = BitVec.ofNat 32 ((j : ℕ) - i) + BitVec.ofNat 32 (i : ℕ) := by
        rw [← BitVec.ofNat_add, Nat.sub_add_cancel h]
      rw [this, BitVec.sub_eq_iff_eq_add, BitVec.add_comm (BitVec.ofNat 32 ((j : ℕ) - i)), ← BitVec.add_assoc,
        BitVec.add_comm (0#32 - _) _, BitVec.add_assoc, BitVec.sub_add_cancel, BitVec.add_zero]
    rw [e, abs_word_neg ⟨(j : ℕ) - i, by omega⟩]
    congr 1
    exact decide_eq_decide.mpr (by dsimp only; omega)

/-- The band matrix: two on the diagonal, one beside it, zero elsewhere. -/
theorem V_band (i j : Fin 512) : Gen.V m c main_v15 (ix2 i j) = ((band i j : ℝ) : EReal) := by
  simp only [Gen.V, List.flatten_cons, List.flatten_nil, List.append_nil, hostOps0, hostOps0_1, hostOps0_2,
    hostOps0_3, hostOps0_4, hostOps0_5, hostOps0_6, hostOps0_7, hostOps0_8, List.cons_append, List.nil_append]
  after_reads_at
  rw [sub_word_zero, sub_word_one, f32_two]
  unfold band
  by_cases h : (i : ℕ) = j
  · have h' : ¬((i : ℕ) + 1 = j ∨ (j : ℕ) + 1 = i) := by omega
    rw [decide_eq_true h, decide_eq_false h', if_pos h]
    exact zero_add _
  · rw [decide_eq_false h, if_neg h]
    by_cases h' : (i : ℕ) + 1 = j ∨ (j : ℕ) + 1 = i
    · rw [decide_eq_true h', if_pos h', EReal.coe_one]
      exact add_zero _
    · rw [decide_eq_false h', if_neg h', EReal.coe_zero]
      exact add_zero _

/-- The row number divided by eight, as the program rounds it. -/
theorem div_word : ∀ i : Fin 512,
    Scalar.select
          (IntOp.andi
            (IntOp.cmpi CmpIPredicate.ne
              ((if BitVec.ofNat 32 (i : ℕ) = 0 then 0 else if (BitVec.ofNat 32 (i : ℕ)).msb = true then -1 else 1) : BitVec 32)
              ((if 8#32 = 0 then 0 else if (8#32).msb = true then -1 else 1) : BitVec 32))
            (IntOp.cmpi CmpIPredicate.ne (IntOp.remsi ArithUnit.host (BitVec.ofNat 32 (i : ℕ)) 8#32) 0#32))
          (IntOp.subi (IntOp.divsi ArithUnit.host (BitVec.ofNat 32 (i : ℕ)) 8#32) 1#32)
          (IntOp.divsi ArithUnit.host (BitVec.ofNat 32 (i : ℕ)) 8#32)
      = BitVec.ofNat 32 ((i : ℕ) / 8) := by
  decide +kernel

/-- Two small words are equal exactly when their numbers are. -/
theorem eq_word {a b : ℕ} (ha : a < 512) (hb : b < 512) :
    IntOp.cmpi CmpIPredicate.eq (BitVec.ofNat 32 a) (BitVec.ofNat 32 b) = BitVec.ofBool (decide (a = b)) := by
  have : (BitVec.ofNat 32 a = BitVec.ofNat 32 b) ↔ a = b := by
    rw [← BitVec.toNat_inj, BitVec.toNat_ofNat, BitVec.toNat_ofNat, Nat.mod_eq_of_lt (by omega),
      Nat.mod_eq_of_lt (by omega)]
  show BitVec.ofBool (decide (BitVec.ofNat 32 a = BitVec.ofNat 32 b)) = _
  rw [decide_eq_decide.mpr this]

/-- The pooling matrix: an eighth where the row's cell is the column. -/
theorem V_pool (i : Fin 512) (j : Fin 64) : Gen.V m c main_v24 (ix2 i j) = ((pool i j : ℝ) : EReal) := by
  simp only [Gen.V, List.flatten_cons, List.flatten_nil, List.append_nil, hostOps0, hostOps0_1, hostOps0_2,
    hostOps0_3, hostOps0_4, hostOps0_5, hostOps0_6, hostOps0_7, hostOps0_8, List.cons_append, List.nil_append]
  after_reads_at
  refine (congrArg (fun w : BitVec 32 => Scalar.select (IntOp.cmpi CmpIPredicate.eq w (BitVec.ofNat 32 (j : ℕ)))
    (Ideal.ofBits .f32 0x3E000000#32) (0 : EReal)) (div_word i)).trans ?_
  rw [eq_word (by have := i.2; omega) (by have := j.2; omega), f32_eighth]
  unfold pool
  by_cases h : (i : ℕ) / 8 = j
  · rw [decide_eq_true h, if_pos h]
    rfl
  · rw [decide_eq_false h, if_neg h, EReal.coe_zero]
    rfl

end Hog

end
-- ==== Proof.Block.lean ====
module

public import proofs.«01_k».proof.Proof.Inputs
public import Idealize.ShloMosaic.Lib.Pipeline.ValueKit

@[expose] public section

/-! The body of the kernel on one image, read at an index. -/

set_option maxRecDepth 16384

namespace Hog

open Idealize.ShloMosaic Cert.KernelIdeal Cert.KernelIdeal.Gen

/-! ## The gradients, the lengths and the directions -/

section Pixels

variable (x : Fin 512 → Fin 512 → ℝ) (v0 : Vec Ideal S1x512x512 .f32) (v3 : Vec Ideal S512x512 .bf16)
  (h0 : ∀ i j, v0 (ix3 0 i j) = ((x i j : ℝ) : EReal)) (h3 : ∀ i j, v3 (ix2 i j) = ((band i j : ℝ) : EReal))

include h0 h3

/-- The gradient across the columns. -/
theorem pay4_at (i j : Fin 512) : k0_pay4 v0 v3 (ix2 i j) = ((gradX x i j : ℝ) : EReal) := by
  unfold k0_pay4
  pointwise [k0_pay1, k0_pay2]
  simp only [h0, h3, ← EReal.coe_mul, coe_sum]
  rw [before_coe (fun n => down x i n) (fun b => ∑ k : Fin 512, band i k * x k b) (fun b => band_rows x i b)
      (down_out x i (by omega)) j,
    after_coe (fun n => down x i n) (fun b => ∑ k : Fin 512, band i k * x k b) (fun b => band_rows x i b)
      (down_out x i (by omega)) j, ← EReal.coe_sub]
  rfl

/-- The gradient across the rows. -/
theorem pay5_at (i j : Fin 512) : k0_pay5 v0 v3 (ix2 i j) = ((gradY x i j : ℝ) : EReal) := by
  unfold k0_pay5
  pointwise [k0_pay1, k0_pay2]
  simp only [h0, h3, ← EReal.coe_mul, coe_sum]
  rw [before_coe (fun n => along x n j) (fun b => ∑ k : Fin 512, x b k * band k j) (fun b => band_cols x b j)
      (along_out x j (by omega)) i,
    after_coe (fun n => along x n j) (fun b => ∑ k : Fin 512, x b k * band k j) (fun b => band_cols x b j)
      (along_out x j (by omega)) i, ← EReal.coe_sub]
  rfl

/-- The length of the gradient. -/
theorem pay6_at (i j : Fin 512) : k0_pay6 v0 v3 (ix2 i j) = ((mag x i j : ℝ) : EReal) := by
  unfold k0_pay6
  pointwise []
  rw [pay4_at x v0 v3 h0 h3, pay5_at x v0 v3 h0 h3, mag_coe]

/-- The direction of the gradient. -/
theorem pay7_at (i j : Fin 512) : k0_pay7 v0 v3 (ix2 i j) = ((turn x i j : ℝ) : EReal) := by
  unfold k0_pay7
  pointwise []
  rw [pay4_at x v0 v3 h0 h3, pay5_at x v0 v3 h0 h3, turn_coe]

/-- The whole number below the direction, modulo ten. -/
theorem pay8_at (i j : Fin 512) : k0_pay8 v0 v3 (ix2 i j) = (((⌊turn x i j⌋ % 10 : ℤ) : ℝ) : EReal) := by
  unfold k0_pay8
  pointwise []
  rw [pay7_at x v0 v3 h0 h3, Ideal.liftRound_coe]
  exact wrap_coe (floor_turn x i j).1 (floor_turn x i j).2

/-- The whole number above the direction, modulo ten. -/
theorem pay9_at (i j : Fin 512) :
    k0_pay9 (k0_pay7 v0 v3) (ix2 i j) = (((⌈turn x i j⌉ % 10 : ℤ) : ℝ) : EReal) := by
  unfold k0_pay9
  pointwise []
  rw [pay7_at x v0 v3 h0 h3, Ideal.liftRound_coe]
  exact wrap_coe (ceil_turn x i j).1 (ceil_turn x i j).2

end Pixels

/-! ## The bins of a cell -/

/-- What the bins are computed from: the pooling matrix, the two directions modulo ten, the lengths, what the lengths
lack of one, and zeros. -/
structure Fields (x : Fin 512 → Fin 512 → ℝ) (v6 : FVec Ideal S512x64 .bf16)
    (v41 v53 v54 v57 v58 : FVec Ideal S512x512 .bf16) : Prop where
  pool : ∀ p a, v6 (ix2 p a) = ((pool p a : ℝ) : EReal)
  fl : ∀ i j, v41 (ix2 i j) = (((⌊turn x i j⌋ % 10 : ℤ) : ℝ) : EReal)
  ce : ∀ i j, v53 (ix2 i j) = (((⌈turn x i j⌉ % 10 : ℤ) : ℝ) : EReal)
  len : ∀ i j, v54 (ix2 i j) = ((mag x i j : ℝ) : EReal)
  rest : ∀ i j, v57 (ix2 i j) = 1 - ((mag x i j : ℝ) : EReal)
  none : ∀ i j, v58 (ix2 i j) = 0

section Bins

variable {x : Fin 512 → Fin 512 → ℝ} {v6 : FVec Ideal S512x64 .bf16}
  {v41 v53 v54 v57 v58 : FVec Ideal S512x512 .bf16} (h : Fields x v6 v41 v53 v54 v57 v58)

include h

/-- Bin two. -/
theorem pay17_at (a b : Fin 64) :
    k0_pay17 v6 v41 v53 v54 v57 v58 (ix2 a b) = ((cell x 2 a b : ℝ) : EReal) := by
  unfold k0_pay17
  pointwise []
  simp only [h.pool, h.fl, h.ce, h.len, h.rest, h.none]
  exact cell_coe x 2 (by rw [bf16_two]; norm_num) a b

/-- Bin three. -/
theorem pay19_at (a b : Fin 64) :
    k0_pay19 v6 v41 v53 v54 v57 v58 (ix2 a b) = ((cell x 3 a b : ℝ) : EReal) := by
  unfold k0_pay19
  pointwise []
  simp only [h.pool, h.fl, h.ce, h.len, h.rest, h.none]
  exact cell_coe x 3 (by rw [bf16_three]; norm_num) a b

/-- Bin five. -/
theorem pay26_at (a b : Fin 64) :
    k0_pay26 v6 v41 v53 v54 v57 v58 (ix2 a b) = ((cell x 5 a b : ℝ) : EReal) := by
  unfold k0_pay26
  pointwise []
  simp only [h.pool, h.fl, h.ce, h.len, h.rest, h.none]
  exact cell_coe x 5 (by rw [bf16_five]; norm_num) a b

/-- Bin six. -/
theorem pay29_at (a b : Fin 64) :
    k0_pay29 v6 v41 v53 v54 v57 v58 (ix2 a b) = ((cell x 6 a b : ℝ) : EReal) := by
  unfold k0_pay29
  pointwise []
  simp only [h.pool, h.fl, h.ce, h.len, h.rest, h.none]
  exact cell_coe x 6 (by rw [bf16_six]; norm_num) a b

/-- Bin seven. -/
theorem pay31_at (a b : Fin 64) :
    k0_pay31 v6 v41 v53 v54 v57 v58 (ix2 a b) = ((cell x 7 a b : ℝ) : EReal) := by
  unfold k0_pay31
  pointwise []
  simp only [h.pool, h.fl, h.ce, h.len, h.rest, h.none]
  exact cell_coe x 7 (by rw [bf16_seven]; norm_num) a b

/-- Bin eight. -/
theorem pay33_at (a b : Fin 64) :
    k0_pay33 v6 v41 v53 v54 v57 v58 (ix2 a b) = ((cell x 8 a b : ℝ) : EReal) := by
  unfold k0_pay33
  pointwise []
  simp only [h.pool, h.fl, h.ce, h.len, h.rest, h.none]
  exact cell_coe x 8 (by rw [bf16_eight]; norm_num) a b

/-- Bin four, whose first vote and whose number are computed apart. -/
theorem pay24_at (a b : Fin 64) :
    k0_pay24 v6 v53 v57 v58 (k0_pay22 v41 v54 v58) (k0_pay23 (F := Ideal)) (ix2 a b)
      = ((cell x 4 a b : ℝ) : EReal) := by
  unfold k0_pay24
  pointwise [k0_pay22, k0_pay23]
  simp only [h.pool, h.fl, h.ce, h.len, h.rest, h.none]
  exact cell_coe x 4 (by rw [bf16_four]; norm_num) a b

end Bins

end Hog

end
-- ==== Proof.BlockOut.lean ====
module

public import proofs.«01_k».proof.Proof.Block
public import Idealize.ShloMosaic.Lib.Pipeline.ValueKit

@[expose] public section

/-! The ten stores of the kernel's body put together: the result block of one image, read at an index. -/

set_option maxRecDepth 16384

namespace Hog

open Idealize.ShloMosaic Cert.KernelIdeal Cert.KernelIdeal.Gen

variable (x : Fin 512 → Fin 512 → ℝ) (x0 : Vec Ideal S1x512x512 .f32) (x1 : Vec Ideal S512x512 .bf16)
  (x2 : Vec Ideal S512x64 .bf16) (h0 : ∀ i j, x0 (ix3 0 i j) = ((x i j : ℝ) : EReal))
  (h1 : ∀ i j, x1 (ix2 i j) = ((band i j : ℝ) : EReal)) (h2 : ∀ i j, x2 (ix2 i j) = ((pool i j : ℝ) : EReal))

include h0 h1 h2

/-- The intermediate arrays of the body hold what the bins are computed from. -/
theorem fields : Fields x (k0_pay36 x0 x1 x2) (k0_pay39 x0 x1 x2) (k0_pay40 x0 x1 x2) (k0_pay41 x0 x1 x2)
    (k0_pay42 x0 x1 x2) (k0_pay43 x0 x1 x2) := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  refine ⟨fun p a => ?_, fun i j => ?_, fun i j => ?_, fun i j => ?_, fun i j => ?_, fun i j => ?_⟩
  · unfold k0_pay36
    rw [e2]
    pointwise [k0_pay3]
    exact h2 p a
  · unfold k0_pay39
    rw [e0, e1]
    exact pay8_at x x0 x1 h0 h1 i j
  · unfold k0_pay40 k0_pay38
    rw [e0, e1]
    exact pay9_at x x0 x1 h0 h1 i j
  · unfold k0_pay41 k0_pay37
    rw [e0, e1]
    pointwise [k0_pay10]
    exact pay6_at x x0 x1 h0 h1 i j
  · unfold k0_pay42 k0_pay37
    rw [e0, e1]
    pointwise [k0_pay11]
    rw [pay6_at x x0 x1 h0 h1]
  · unfold k0_pay43
    pointwise [k0_pay12]

/-- Bin zero. -/
theorem pay13_at (a b : Fin 64) :
    k0_pay13 (k0_pay36 x0 x1 x2) (k0_pay37 x0 x1 x2) (k0_pay38 x0 x1 x2) (k0_pay39 x0 x1 x2) (ix2 a b)
      = ((cell x 0 a b : ℝ) : EReal) := by
  have h := fields x x0 x1 x2 h0 h1 h2
  have hc := h.ce
  have hl := h.len
  have hr := h.rest
  have hn := h.none
  unfold k0_pay40 at hc
  unfold k0_pay41 at hl
  unfold k0_pay42 at hr
  unfold k0_pay43 at hn
  unfold k0_pay13
  generalize k0_pay9 (k0_pay38 x0 x1 x2) = C at *
  generalize k0_pay10 (k0_pay37 x0 x1 x2) = L at *
  generalize k0_pay11 (k0_pay37 x0 x1 x2) = R at *
  generalize (k0_pay12 : FVec Ideal S512x512 .bf16) = Z at *
  pointwise []
  simp only [h.pool, h.fl, hc, hl, hr, hn]
  exact cell_coe x 0 (by norm_num) a b

/-- Bin one. -/
theorem pay44_at (a b : Fin 64) : k0_pay44 x0 x1 x2 (ix2 a b) = ((cell x 1 a b : ℝ) : EReal) := by
  have h := fields x x0 x1 x2 h0 h1 h2
  have hc := h.ce
  have hl := h.len
  have hr := h.rest
  have hn := h.none
  unfold k0_pay40 at hc
  unfold k0_pay41 at hl
  unfold k0_pay42 at hr
  unfold k0_pay43 at hn
  unfold k0_pay44 k0_pay15
  generalize k0_pay9 (k0_pay38 x0 x1 x2) = C at *
  generalize k0_pay10 (k0_pay37 x0 x1 x2) = L at *
  generalize k0_pay11 (k0_pay37 x0 x1 x2) = R at *
  generalize (k0_pay12 : FVec Ideal S512x512 .bf16) = Z at *
  pointwise []
  simp only [h.pool, h.fl, hc, hl, hr, hn]
  exact cell_coe x 1 (by norm_num) a b

/-- The last bin: what the other nine lack of one. -/
theorem pay35_at (a b : Fin 64) :
    k0_pay35 (k0_pay36 x0 x1 x2) (k0_pay39 x0 x1 x2) (k0_pay40 x0 x1 x2) (k0_pay41 x0 x1 x2) (k0_pay42 x0 x1 x2) (k0_pay43 x0 x1 x2) (k0_pay28 (k0_pay36 x0 x1 x2) (k0_pay39 x0 x1 x2) (k0_pay40 x0 x1 x2) (k0_pay41 x0 x1 x2) (k0_pay42 x0 x1 x2) (k0_pay43 x0 x1 x2) (k0_pay21 (k0_pay36 x0 x1 x2) (k0_pay39 x0 x1 x2) (k0_pay40 x0 x1 x2) (k0_pay41 x0 x1 x2) (k0_pay42 x0 x1 x2) (k0_pay43 x0 x1 x2) (k0_pay13 (k0_pay36 x0 x1 x2) (k0_pay37 x0 x1 x2) (k0_pay38 x0 x1 x2) (k0_pay39 x0 x1 x2)) (k0_pay44 x0 x1 x2)) (k0_pay45 x0 x1 x2) (k0_pay46 x0 x1 x2)) (k0_pay47 x0 x1 x2)
      (ix4 0 0 a b) = ((cell x 9 a b : ℝ) : EReal) := by
  have h := fields x x0 x1 x2 h0 h1 h2
  unfold k0_pay35 k0_pay28 k0_pay21 k0_pay47 k0_pay45 k0_pay46
  pointwise []
  rw [pay13_at x x0 x1 x2 h0 h1 h2, pay44_at x x0 x1 x2 h0 h1 h2, pay17_at h, pay19_at h, pay24_at h, pay26_at h,
    pay29_at h, pay31_at h, pay33_at h, cell_last]
  simp only [EReal.coe_sub, EReal.coe_add, EReal.coe_one]

/-- The result block of one image. -/
theorem out_at (y : S1x10x64x64.Idx) :
    out0_3 x0 x1 x2 y = ((cell x (y 1) (y 2) (y 3) : ℝ) : EReal) := by
  have h := fields x x0 x1 x2 h0 h1 h2
  canon_tiles z hz
  all_goals
    obtain ⟨a, b, rfl⟩ : ∃ a b : Fin 64, z = ix4 0 0 a b := ⟨z 2, z 3, by
      rw [eq_ix4 z]; congr 1 <;> exact Subsingleton.elim _ _⟩
    rw [show ((y 2 : Fin 64) : ℕ) = a from hz2, show ((y 3 : Fin 64) : ℕ) = b from hz3]
  · rw [show ((y 1 : Fin 10) : ℕ) = 9 from hz1]
    exact pay35_at x x0 x1 x2 h0 h1 h2 a b
  · rw [show ((y 1 : Fin 10) : ℕ) = 8 from hz1]
    unfold k0_pay34
    pointwise []
    exact pay33_at h a b
  · rw [show ((y 1 : Fin 10) : ℕ) = 7 from hz1]
    unfold k0_pay32
    pointwise []
    exact pay31_at h a b
  · rw [show ((y 1 : Fin 10) : ℕ) = 6 from hz1]
    unfold k0_pay30 k0_pay47
    pointwise []
    exact pay29_at h a b
  · rw [show ((y 1 : Fin 10) : ℕ) = 5 from hz1]
    unfold k0_pay27
    pointwise []
    exact pay26_at h a b
  · rw [show ((y 1 : Fin 10) : ℕ) = 4 from hz1]
    unfold k0_pay25 k0_pay45 k0_pay46
    pointwise []
    exact pay24_at h a b
  · rw [show ((y 1 : Fin 10) : ℕ) = 3 from hz1]
    unfold k0_pay20
    pointwise []
    exact pay19_at h a b
  · rw [show ((y 1 : Fin 10) : ℕ) = 2 from hz1]
    unfold k0_pay18
    pointwise []
    exact pay17_at h a b
  · rw [show ((y 1 : Fin 10) : ℕ) = 1 from hz1]
    unfold k0_pay16
    pointwise []
    exact pay44_at x x0 x1 x2 h0 h1 h2 a b
  · rw [show ((y 1 : Fin 10) : ℕ) = 0 from hz1]
    unfold k0_pay14
    pointwise []
    exact pay13_at x x0 x1 x2 h0 h1 h2 a b

end Hog

end
-- ==== Proof.Array.lean ====
module

public import proofs.«01_k».proof.Proof.BlockOut
public import Idealize.ShloMosaic.Lib.Pipeline.ValueKit

@[expose] public section

/-! The result array of the kernel: one block per image. -/

set_option maxRecDepth 16384

namespace Hog

open Idealize.ShloMosaic Idealize.ShloMosaic.TcCoe Cert.KernelIdeal Cert.KernelIdeal.Gen

/-- The histograms of all images, as an array of extended reals. -/
noncomputable def hog (img : Fin 32 → Fin 512 → Fin 512 → ℝ) : S32x10x64x64.Idx → EReal :=
  fun y => ((cell (img (y 0)) (y 1) (y 2) (y 3) : ℝ) : EReal)

/-- The image a grid point works on. -/
def image (t : Fin cfg0.N) : Fin 32 := grid0.coords t 0

/-- Where the four windows stand at a grid point. -/
theorem idx : ∀ t : Fin cfg0.N, win0_0.index t = ![(image t).val, 0, 0] ∧ win0_1.index t = ![0, 0]
    ∧ win0_2.index t = ![0, 0] ∧ win0_3.index t = ![(image t).val, 0, 0, 0] := by
  decide +kernel

variable (m : (ℓ : Loc nD τ sig) → Buf (Elt Ideal) ℓ) (c : Dev nD) (img : Fin 32 → Fin 512 → Fin 512 → ℝ)
  (hm : ∀ b i j, m ((c : Thread nD τ).loc main_arg0) (ix4 b 0 i j) = ((img b i j : ℝ) : EReal))

include hm

/-- The image block of a grid point. -/
theorem blk_img (t : Fin cfg0.N) (i j : Fin 512) :
    iblk m c 0 t (ix3 0 i j) = ((img (image t) i j : ℝ) : EReal) := by
  rw [← hm, ← V_img m c]
  blk_ext [iblk, (idx t).1]

omit hm in
/-- The band matrix is read whole at every grid point. -/
theorem blk_band (t : Fin cfg0.N) (i j : Fin 512) : iblk m c 1 t (ix2 i j) = ((band i j : ℝ) : EReal) := by
  rw [← V_band m c]
  blk_ext [iblk, (idx t).2.1]

omit hm in
/-- The pooling matrix is read whole at every grid point. -/
theorem blk_pool (t : Fin cfg0.N) (i : Fin 512) (j : Fin 64) :
    iblk m c 2 t (ix2 i j) = ((pool i j : ℝ) : EReal) := by
  rw [← V_pool m c]
  blk_ext [iblk, (idx t).2.2.1]

/-- The result array after the kernel's run. -/
theorem arr_eq : (dats m 0 c).arrAt 3 cfg0.N = hog img := by
  refine (dats m 0 c).arrAt_eq_of_covers 3 _ (by decide +kernel) fun t hf y => ?_
  blk_simp
  rw [after0_3]
  refine (out_at (img (image t)) _ _ _ (blk_img m c img hm t) (blk_band m c t) (blk_pool m c t) _).trans ?_
  simp only [hog]
  have e0 : ((win0_3.blk t).view.emb y) 0 = image t := by
    apply Fin.ext
    blk_simp [(idx t).2.2.2]
  blk_simp [(idx t).2.2.2]
  rw [e0]

end Hog

end
-- ==== Proof.RefGrad.lean ====
module

public import proofs.«01_k».proof.Proof.Gen.ReferenceIdeal.Run
public import proofs.«01_k».proof.Proof.Ops
public import Idealize.ShloMosaic.Lib.Pointwise
public import Idealize.ShloMosaic.Lib.Tactic.CleanTypes

@[expose] public section

/-! The reference's gradient, its magnitude and its direction. -/

set_option maxRecDepth 16384

namespace Hog

open Idealize.ShloMosaic Cert.ReferenceIdeal Cert.ReferenceIdeal.Value

/-- The number of the word zero. -/
theorem sitofp_zero : FloatOps.sitofp (F := Ideal) (w := 32) .f32 0#32 = ((0 : ℝ) : EReal) := by
  show (((0#32 : BitVec 32).toInt : ℝ) : EReal) = ((0 : ℝ) : EReal)
  norm_num

variable (V : Valuation τ sig (Elt Ideal)) (img : Fin 32 → Fin 512 → Fin 512 → ℝ)
  (hV : ∀ b i j, V (Proc.devRef .tc main_arg0) (ix4 b 0 i j) = ((img b i j : ℝ) : EReal))

include hV

/-- The reference's padded image is the image in its zero border. -/
theorem ref_pad (b : Fin 32) (i j : Fin 514) :
    res_main_v1 (F := Ideal) V (ix3 b i j) = ((pix (img b) i j : ℝ) : EReal) := by
  unfold res_main_v1
  clean_types
  pointwise []
  by_cases hi : 1 ≤ (i : ℕ) ∧ (i : ℕ) - 1 < 512
  · by_cases hj : 1 ≤ (j : ℕ) ∧ (j : ℕ) - 1 < 512
    · rw [dif_pos ⟨hi, hj⟩]
      refine (hV _ _ _).trans (congrArg _ ?_)
      have h1 : ((⟨(i : ℕ) - 1, hi.2⟩ : Fin 512) : ℕ) + 1 = (i : ℕ) := Nat.sub_add_cancel hi.1
      have h2 : ((⟨(j : ℕ) - 1, hj.2⟩ : Fin 512) : ℕ) + 1 = (j : ℕ) := Nat.sub_add_cancel hj.1
      have h3 := pix_row (img b) ⟨(i : ℕ) - 1, hi.2⟩ (((⟨(j : ℕ) - 1, hj.2⟩ : Fin 512) : ℕ) + 1)
      rw [line_succ, h1, h2] at h3
      exact h3.symm
    · rw [dif_neg (fun h => hj h.2)]
      have h0 : pix (img b) i j = 0 := by
        unfold pix
        rw [show (fun a => line (img b a) j) = fun _ => 0 from funext fun a => line_out _ (by omega), line_zero]
      rw [h0]
      exact sitofp_zero
  · rw [dif_neg (fun h => hi h.1)]
    have h0 : pix (img b) i j = 0 := line_out _ (by omega)
    rw [h0]
    exact sitofp_zero

/-- The horizontal derivative. -/
theorem ref_gradX (b : Fin 32) (i j : Fin 512) :
    res_main_v78 (F := Ideal) V (ix4 b 0 i j) = ((gradX (img b) i j : ℝ) : EReal) := by
  unfold res_main_v78
  generalize hP : res_main_v1 (F := Ideal) V = P
  have hp : ∀ i j : Fin 514, P (ix3 b i j) = ((pix (img b) i j : ℝ) : EReal) := fun i j => by
    rw [← hP]; exact ref_pad V img hV b i j
  clean_types
  pointwise []
  simp only [hp, f32_neg_one, f32_neg_two, f32_two]
  simp only [zero_mul, add_zero, ← EReal.coe_mul, ← EReal.coe_add, Nat.add_comm 1, Nat.add_comm 2]
  refine congrArg _ ?_
  unfold gradX down
  ring

/-- The vertical derivative. -/
theorem ref_gradY (b : Fin 32) (i j : Fin 512) :
    res_main_v78 (F := Ideal) V (ix4 b 1 i j) = ((gradY (img b) i j : ℝ) : EReal) := by
  unfold res_main_v78
  generalize hP : res_main_v1 (F := Ideal) V = P
  have hp : ∀ i j : Fin 514, P (ix3 b i j) = ((pix (img b) i j : ℝ) : EReal) := fun i j => by
    rw [← hP]; exact ref_pad V img hV b i j
  clean_types
  pointwise []
  simp only [hp, f32_neg_one, f32_neg_two, f32_two]
  simp only [zero_mul, add_zero, ← EReal.coe_mul, ← EReal.coe_add, Nat.add_comm 1, Nat.add_comm 2]
  refine congrArg _ ?_
  unfold gradY along
  ring

/-- The magnitude of the gradient. -/
theorem ref_mag (b : Fin 32) (i j : Fin 512) :
    res_main_v81 (F := Ideal) V (ix3 b i j) = ((mag (img b) i j : ℝ) : EReal) := by
  unfold res_main_v81
  generalize hP : res_main_v78 (F := Ideal) V = P
  have h0 : P (ix4 b 0 i j) = ((gradX (img b) i j : ℝ) : EReal) := by rw [← hP]; exact ref_gradX V img hV b i j
  have h1 : P (ix4 b 1 i j) = ((gradY (img b) i j : ℝ) : EReal) := by rw [← hP]; exact ref_gradY V img hV b i j
  clean_types
  pointwise []
  rw [Fin.sum_univ_two, h0, h1, mag_coe]

/-- The direction of the gradient. -/
theorem ref_turn (b : Fin 32) (i j : Fin 512) :
    res_main_v90 (F := Ideal) V (ix3 b i j) = ((turn (img b) i j : ℝ) : EReal) := by
  unfold res_main_v90
  generalize hP : res_main_v78 (F := Ideal) V = P
  have h0 : P (ix4 b 0 i j) = ((gradX (img b) i j : ℝ) : EReal) := by rw [← hP]; exact ref_gradX V img hV b i j
  have h1 : P (ix4 b 1 i j) = ((gradY (img b) i j : ℝ) : EReal) := by rw [← hP]; exact ref_gradY V img hV b i j
  clean_types
  pointwise []
  rw [h0, h1, turn_coe]

/-- The lower bin of a pixel. -/
theorem ref_lower (b : Fin 32) (i j : Fin 512) :
    res_main_v93 (F := Ideal) V (ix3 b i j) = BitVec.ofInt 32 (⌊turn (img b) i j⌋ % 10) := by
  unfold res_main_v93 res_main_call1_v2
  generalize hP : res_main_v90 (F := Ideal) V = P
  have h0 : P (ix3 b i j) = ((turn (img b) i j : ℝ) : EReal) := by rw [← hP]; exact ref_turn V img hV b i j
  unfold res_main_call1_v0
  clean_types
  pointwise []
  rw [h0, Ideal.liftRound_coe]
  exact mod_word (floor_turn _ _ _).1 (floor_turn _ _ _).2

/-- The upper bin of a pixel. -/
theorem ref_upper (b : Fin 32) (i j : Fin 512) :
    res_main_v96 (F := Ideal) V (ix3 b i j) = BitVec.ofInt 32 (⌈turn (img b) i j⌉ % 10) := by
  unfold res_main_v96 res_main_call2_v2
  generalize hP : res_main_v90 (F := Ideal) V = P
  have h0 : P (ix3 b i j) = ((turn (img b) i j : ℝ) : EReal) := by rw [← hP]; exact ref_turn V img hV b i j
  unfold res_main_call2_v0
  clean_types
  pointwise []
  rw [h0, Ideal.liftRound_coe]
  exact mod_word (ceil_turn _ _ _).1 (ceil_turn _ _ _).2

end Hog

end
-- ==== Proof.Lands.lean ====
module

public import proofs.«01_k».proof.Proof.Gen.ReferenceIdeal
public import Idealize.ShloMosaic.Lib.Routing.OpsPair
public import Idealize.ShloMosaic.Lib.Routing.OpsSet
public import Idealize.ShloMosaic.Lib.Pointwise

@[expose] public section

/-! Where an update of the reference's scatters lands: four index words name the element. -/

set_option maxRecDepth 16384

namespace Hog

open Idealize.ShloMosaic Cert.ReferenceIdeal Cert.ReferenceIdeal.Gen

/-- The scatter's dimension numbers. -/
abbrev dims := scatter_S32x10x512x512_S32x512x512x4_S32x512x512_n_0123_0123_3

/-- An update has no window: it is a single number. -/
theorem dims_window (k : S32x512x512.Idx) (q : Fin 4) : dims.window k q = 0 := by
  unfold ScatterDims.window
  rw [dif_neg fun h => (of_decide_eq_true (List.mem_filter.1 h).2) (by fin_cases q <;> decide)]

/-- The place of one of an update's four index words. -/
theorem dims_word (b : Fin 32) (i j : Fin 512) (q : Fin 4)
    (h : List.idxOf q dims.scatterDimsToOperandDims < dims.scatterDimsToOperandDims.length) :
    dims.siIdx (ix3 b i j) ⟨List.idxOf q dims.scatterDimsToOperandDims, h⟩ = ix4 b i j q := by
  funext a
  apply Fin.ext
  fin_cases q <;> fin_cases a <;> rfl

/-- The start of an update on an axis is its index word for that axis, read signed. -/
theorem dims_start (b : Fin 32) (i j : Fin 512) (q : Fin 4) (idx : IVec S32x512x512x4 32) :
    dims.start (ix3 b i j) idx q = (idx (ix4 b i j q)).toInt := by
  have hm : q ∈ dims.scatterDimsToOperandDims := by fin_cases q <;> decide
  unfold ScatterDims.start
  rw [dif_pos hm, dims_word]

/-- An update lands at the element that its four index words name. -/
theorem dims_lands (b : Fin 32) (i j : Fin 512) (idx : IVec S32x512x512x4 32) (r : Fin 32) (k : Fin 10) (u v : Fin 512) :
    dims.resultIdx? (ix3 b i j) idx = some (ix4 r k u v) ↔
      (idx (ix4 b i j 0)).toInt = r.val ∧ (idx (ix4 b i j 1)).toInt = k.val
        ∧ (idx (ix4 b i j 2)).toInt = u.val ∧ (idx (ix4 b i j 3)).toInt = v.val := by
  rw [Routing.resultIdx?_eq_some]
  have e : ∀ q : Fin 4, dims.start (ix3 b i j) idx q + (dims.window (ix3 b i j) q : Int) = (idx (ix4 b i j q)).toInt :=
    fun q => by rw [dims_start, dims_window]; simp
  constructor
  · intro h
    exact ⟨(e 0).symm.trans (h 0), (e 1).symm.trans (h 1), (e 2).symm.trans (h 2), (e 3).symm.trans (h 3)⟩
  · rintro ⟨h0, h1, h2, h3⟩ a
    refine (e a).trans ?_
    fin_cases a
    exacts [h0, h1, h2, h3]

end Hog

end
-- ==== Proof.Words.lean ====
module

public import proofs.«01_k».proof.Proof.RefGrad
public import proofs.«01_k».proof.Proof.Lands

@[expose] public section

/-! The index words of the reference's two scatters: image, bin, row, column. -/

set_option maxRecDepth 16384

namespace Hog

open Idealize.ShloMosaic Cert.ReferenceIdeal Cert.ReferenceIdeal.Gen Cert.ReferenceIdeal.Value

/-- The four index words of every pixel, put side by side: a negative word counts from the end of its axis. -/
def words (w0 : IVec S32x1x1 32) (w1 : IVec S32x512x512 32) (w2 : IVec S1x512x1 32) (w3 : IVec S1x1x512 32) :
    IVec S32x512x512x4 32 :=
  (concatenate S32x512x512x4 3 [⟨S32x512x512x1, ((broadcastInDim S32x512x512x1 ![0, 1, 2] bcast_S32x512x512_S32x512x512x1_0_1_2 (broadcastInDim S32x512x512 ![0, 1, 2] bcast_S32x1x1_S32x512x512_0_1_2 (select (cmpi .slt w0 (broadcastInDim S32x1x1 ![] bcast_S_S32x1x1 (constantI S_ 32 0#32))) (addi w0 (broadcastInDim S32x1x1 ![] bcast_S_S32x1x1 (constantI S_ 32 32#32))) w0))) : (⟨S32x512x512x1, .i32⟩ : BufTy).Contents (Elt Ideal))⟩, ⟨S32x512x512x1, ((broadcastInDim S32x512x512x1 ![0, 1, 2] bcast_S32x512x512_S32x512x512x1_0_1_2 (select (cmpi .slt w1 (broadcastInDim S32x512x512 ![] bcast_S_S32x512x512 (constantI S_ 32 0#32))) (addi w1 (broadcastInDim S32x512x512 ![] bcast_S_S32x512x512 (constantI S_ 32 10#32))) w1)) : (⟨S32x512x512x1, .i32⟩ : BufTy).Contents (Elt Ideal))⟩, ⟨S32x512x512x1, ((broadcastInDim S32x512x512x1 ![0, 1, 2] bcast_S32x512x512_S32x512x512x1_0_1_2 (broadcastInDim S32x512x512 ![0, 1, 2] bcast_S1x512x1_S32x512x512_0_1_2 (select (cmpi .slt w2 (broadcastInDim S1x512x1 ![] bcast_S_S1x512x1 (constantI S_ 32 0#32))) (addi w2 (broadcastInDim S1x512x1 ![] bcast_S_S1x512x1 (constantI S_ 32 512#32))) w2))) : (⟨S32x512x512x1, .i32⟩ : BufTy).Contents (Elt Ideal))⟩, ⟨S32x512x512x1, ((broadcastInDim S32x512x512x1 ![0, 1, 2] bcast_S32x512x512_S32x512x512x1_0_1_2 (broadcastInDim S32x512x512 ![0, 1, 2] bcast_S1x1x512_S32x512x512_0_1_2 (select (cmpi .slt w3 (broadcastInDim S1x1x512 ![] bcast_S_S1x1x512 (constantI S_ 32 0#32))) (addi w3 (broadcastInDim S1x1x512 ![] bcast_S_S1x1x512 (constantI S_ 32 512#32))) w3))) : (⟨S32x512x512x1, .i32⟩ : BufTy).Contents (Elt Ideal))⟩] concatenates_S32x512x512x1_S32x512x512x1_S32x512x512x1_S32x512x512x1_S32x512x512x4_d3 : (⟨S32x512x512x4, .i32⟩ : BufTy).Contents (Elt Ideal))

/-- A word below two to the thirty-first, read signed. -/
theorem word_int {n : ℕ} (h : n < 512) (a : BitVec 32) :
    (Scalar.select (IntOp.cmpi .slt (BitVec.ofNat 32 n) 0#32) a (BitVec.ofNat 32 n)).toInt = (n : ℤ) := by
  rw [Routing.wrap_of_lt _ _ (by rw [BitVec.toNat_ofNat, Nat.mod_eq_of_lt (by omega)]; omega)]
  exact StableHlo.Predicate.toInt_ofNat_small n (by omega)

/-- The four words of a pixel, read signed. -/
theorem words_at (V : Valuation τ sig (Elt Ideal)) (w1 : IVec S32x512x512 32) (b : Fin 32) (i j : Fin 512) {k : ℕ} (hk : k < 10)
    (h1 : w1 (ix3 b i j) = BitVec.ofNat 32 k) (q : Fin 4) :
    (words (res_main_v99 V) w1 (res_main_v101 V) (res_main_v103 V) (ix4 b i j q)).toInt
      = ![(b : ℤ), (k : ℤ), (i : ℤ), (j : ℤ)] q := by
  have hb := b.2
  have hi := i.2
  have hj := j.2
  unfold words res_main_v99 res_main_v101 res_main_v103
  fin_cases q
  · clean_types
    pointwise []
    exact word_int (by omega) _
  · clean_types
    pointwise []
    rw [h1]
    exact word_int (by omega) _
  · clean_types
    pointwise []
    exact word_int (by omega) _
  · clean_types
    pointwise []
    exact word_int (by omega) _

end Hog

end
-- ==== Proof.Votes.lean ====
module

public import proofs.«01_k».proof.Proof.Words

@[expose] public section

/-! What the reference's two scatters leave: every pixel's votes in its ten bins. -/

set_option maxRecDepth 16384

namespace Hog

open Idealize.ShloMosaic Cert.ReferenceIdeal Cert.ReferenceIdeal.Gen Cert.ReferenceIdeal.Value

/-- A remainder modulo ten as a word, and as a number below ten. -/
theorem bin_word (z : ℤ) : BitVec.ofInt 32 (z % 10) = BitVec.ofNat 32 (z % 10).toNat ∧ (z % 10).toNat < 10 := by
  have h0 : 0 ≤ z % 10 := Int.emod_nonneg _ (by norm_num)
  have h1 : z % 10 < 10 := Int.emod_lt_of_pos _ (by norm_num)
  refine ⟨?_, by omega⟩
  conv_lhs => rw [← Int.toNat_of_nonneg h0]
  exact BitVec.ofInt_ofNat 32 _

variable (V : Valuation τ sig (Elt Ideal))

/-- The update of a pixel lands in the pixel's own column of bins, at the bin that its word names. -/
theorem words_lands (w1 : IVec S32x512x512 32) (z : Fin 32 → Fin 512 → Fin 512 → ℤ)
    (h1 : ∀ b i j, w1 (ix3 b i j) = BitVec.ofInt 32 (z b i j % 10)) (e : S32x512x512.Idx)
    (b : Fin 32) (k : Fin 10) (i j : Fin 512) :
    dims.resultIdx? e (words (res_main_v99 V) w1 (res_main_v101 V) (res_main_v103 V)) = some (ix4 b k i j)
      ↔ e = ix3 b i j ∧ z b i j % 10 = (k : ℤ) := by
  obtain ⟨e0, e1, e2, rfl⟩ : ∃ e0 e1 e2, e = ix3 e0 e1 e2 := ⟨e 0, e 1, e 2, eq_ix3 e⟩
  obtain ⟨hw, hk⟩ := bin_word (z e0 e1 e2)
  have hn : (((z e0 e1 e2 % 10).toNat : ℕ) : ℤ) = z e0 e1 e2 % 10 :=
    Int.toNat_of_nonneg (Int.emod_nonneg _ (by norm_num))
  have h := words_at V w1 e0 e1 e2 hk ((h1 e0 e1 e2).trans hw)
  rw [dims_lands, h 0, h 1, h 2, h 3]
  show ((e0 : ℕ) : ℤ) = (b : ℕ) ∧ (((z e0 e1 e2 % 10).toNat : ℕ) : ℤ) = (k : ℕ) ∧ ((e1 : ℕ) : ℤ) = (i : ℕ)
    ∧ ((e2 : ℕ) : ℤ) = (j : ℕ) ↔ _
  rw [hn]
  constructor
  · rintro ⟨a0, a1, a2, a3⟩
    have c0 : e0 = b := Fin.ext (by exact_mod_cast a0)
    have c1 : e1 = i := Fin.ext (by exact_mod_cast a2)
    have c2 : e2 = j := Fin.ext (by exact_mod_cast a3)
    subst c0 c1 c2
    exact ⟨rfl, a1⟩
  · rintro ⟨he, a⟩
    have c0 : e0 = b := congrFun he 0
    have c1 : e1 = i := congrFun he 1
    have c2 : e2 = j := congrFun he 2
    subst c0 c1 c2
    exact ⟨rfl, a, rfl, rfl⟩

/-- The first scatter, read at an element: the pixel's update at the bin that its word names, elsewhere the operand. -/
theorem set_at (w1 : IVec S32x512x512 32) (z : Fin 32 → Fin 512 → Fin 512 → ℤ)
    (h1 : ∀ b i j, w1 (ix3 b i j) = BitVec.ofInt 32 (z b i j % 10)) (x : S32x10x512x512.Idx → EReal)
    (u : S32x512x512.Idx → EReal) (b : Fin 32) (k : Fin 10) (i j : Fin 512) :
    Host.scatter dims (fun _ b => b) x (words (res_main_v99 V) w1 (res_main_v101 V) (res_main_v103 V)) u (ix4 b k i j)
      = if z b i j % 10 = (k : ℤ) then u (ix3 b i j) else x (ix4 b k i j) := by
  split_ifs with h
  · exact Routing.scatter_set_hit _ _ _ _ _ _ (fun e he => by rw [((words_lands V w1 z h1 e b k i j).1 he).1]) (ix3 b i j)
      ((words_lands V w1 z h1 _ b k i j).2 ⟨rfl, h⟩)
  · exact Routing.scatter_set_miss _ _ _ _ _ fun e he => h ((words_lands V w1 z h1 e b k i j).1 he).2

/-- The second scatter, read at an element: the pixel's update added at the bin that its word names. -/
theorem add_at (w1 : IVec S32x512x512 32) (z : Fin 32 → Fin 512 → Fin 512 → ℤ)
    (h1 : ∀ b i j, w1 (ix3 b i j) = BitVec.ofInt 32 (z b i j % 10)) (x : FVec Ideal S32x10x512x512 .f32)
    (u : FVec Ideal S32x512x512 .f32) (b : Fin 32) (k : Fin 10) (i j : Fin 512) :
    Host.scatterAdd (F := Ideal) dims x (words (res_main_v99 V) w1 (res_main_v101 V) (res_main_v103 V)) u (ix4 b k i j)
      = x (ix4 b k i j) + if z b i j % 10 = (k : ℤ) then u (ix3 b i j) else (0 : EReal) := by
  show x (ix4 b k i j) + (∑ e ∈ Finset.univ.filter (fun e => dims.resultIdx? e
    (words (res_main_v99 V) w1 (res_main_v101 V) (res_main_v103 V)) = some (ix4 b k i j)), u e : EReal) = _
  congr 1
  split_ifs with h
  · rw [show (Finset.univ.filter fun e => dims.resultIdx? e
      (words (res_main_v99 V) w1 (res_main_v101 V) (res_main_v103 V)) = some (ix4 b k i j)) = {ix3 b i j} from by
        ext e
        rw [Finset.mem_filter, Finset.mem_singleton, words_lands V w1 z h1]
        exact ⟨fun q => q.2.1, fun q => ⟨Finset.mem_univ _, q, h⟩⟩]
    exact Finset.sum_singleton _ _
  · rw [Finset.filter_false_of_mem fun e _ he => h ((words_lands V w1 z h1 e b k i j).1 he).2]
    exact Finset.sum_empty

variable (img : Fin 32 → Fin 512 → Fin 512 → ℝ)
  (hV : ∀ b i j, V (Proc.devRef .tc main_arg0) (ix4 b 0 i j) = ((img b i j : ℝ) : EReal))

/-- The reference's votes are the two scatters over the words of the lower and the upper bin. -/
theorem votes_eq : res_main_v163 (F := Ideal) V
    = Host.scatterAdd (F := Ideal) (φ := .f32) dims
        (Host.scatter dims (fun _ b => b)
          (broadcastInDim S32x10x512x512 ![] bcast_S_S32x10x512x512 (constant (F := Ideal) S_ .f32 0x00000000#32))
          (words (res_main_v99 V) (res_main_v93 V) (res_main_v101 V) (res_main_v103 V)) (res_main_v81 V))
        (words (res_main_v99 V) (res_main_v96 V) (res_main_v101 V) (res_main_v103 V))
        (subf (broadcastInDim S32x512x512 ![] bcast_S_S32x512x512 (constant S_ .f32 0x3F800000#32)) (res_main_v81 V)) := rfl

include hV

/-- The votes of a pixel in a bin. -/
theorem ref_bin (b : Fin 32) (k : Fin 10) (i j : Fin 512) :
    res_main_v163 (F := Ideal) V (ix4 b k i j) = ((bin (img b) k i j : ℝ) : EReal) := by
  rw [votes_eq, add_at V _ (fun b i j => ⌈turn (img b) i j⌉) (ref_upper V img hV),
    set_at V _ (fun b i j => ⌊turn (img b) i j⌋) (ref_lower V img hV), ref_mag V img hV]
  have h2 : subf (F := Ideal) (φ := .f32) (broadcastInDim S32x512x512 ![] bcast_S_S32x512x512 (constant S_ .f32 0x3F800000#32)) (res_main_v81 V)
      (ix3 b i j) = ((1 - mag (img b) i j : ℝ) : EReal) := by
    generalize hP : res_main_v81 (F := Ideal) V = P
    have h0 : P (ix3 b i j) = ((mag (img b) i j : ℝ) : EReal) := by rw [← hP]; exact ref_mag V img hV b i j
    clean_types
    pointwise []
    rw [h0, EReal.coe_sub, EReal.coe_one]
  have h3 : broadcastInDim S32x10x512x512 ![] bcast_S_S32x10x512x512 (constant (F := Ideal) S_ .f32 0x00000000#32)
      (ix4 b k i j) = ((0 : ℝ) : EReal) := by
    pointwise []
    rfl
  rw [h2, h3, coe_ite]
  unfold bin vote
  rw [EReal.coe_add]
  congr 1
  split_ifs <;> rfl

end Hog

end
-- ==== Proof.Cells.lean ====
module

public import proofs.«01_k».proof.Proof.Votes
public import Idealize.ShloMosaic.Lib.Pointwise.Reduce

@[expose] public section

/-! What the reference leaves: the mean of the votes over every eight by eight block of pixels. -/

set_option maxRecDepth 16384

namespace Hog

open Idealize.ShloMosaic Cert.ReferenceIdeal Cert.ReferenceIdeal.Gen Cert.ReferenceIdeal.Value

/-- Which elements are summed into one cell. -/
theorem drop_eq (b : Fin 32) (k : Fin 10) (p q : Fin 64) (i : S32x10x64x8x64x8.Idx) :
    reducesTo_S32x10x64x8x64x8_S32x10x64x64_d3_5.drop i = ix4 b k p q
      ↔ ∃ w : Fin 8 × Fin 8, (ix6 b k p w.1 q w.2 : S32x10x64x8x64x8.Idx) = i := by
  obtain ⟨i0, i1, i2, i3, i4, i5, rfl⟩ : ∃ i0 i1 i2 i3 i4 i5, i = ix6 i0 i1 i2 i3 i4 i5 :=
    ⟨i 0, i 1, i 2, i 3, i 4, i 5, eq_ix6 i⟩
  have hd : reducesTo_S32x10x64x8x64x8_S32x10x64x64_d3_5.drop (ix6 i0 i1 i2 i3 i4 i5) = ix4 i0 i1 i2 i4 := by
    funext a
    fin_cases a <;> rfl
  rw [hd]
  constructor
  · intro h
    have c0 : i0 = b := congrFun h 0
    have c1 : i1 = k := congrFun h 1
    have c2 : i2 = p := congrFun h 2
    have c4 : i4 = q := congrFun h 3
    exact ⟨(i3, i5), by rw [c0, c1, c2, c4]⟩
  · rintro ⟨w, h⟩
    have c0 : b = i0 := congrFun h 0
    have c1 : k = i1 := congrFun h 1
    have c2 : p = i2 := congrFun h 2
    have c4 : q = i4 := congrFun h 4
    rw [c0, c1, c2, c4]

/-- The sum over the two block axes, read at a cell. -/
theorem sum_cell (x : FVec Ideal S32x10x64x8x64x8 .f32) (init : FVec Ideal S_ .f32) (b : Fin 32) (k : Fin 10) (p q : Fin 64) :
    Host.reduceAdd (F := Ideal) x init reducesTo_S32x10x64x8x64x8_S32x10x64x64_d3_5 h_S_ (ix4 b k p q)
      = init ix0 + ∑ u : Fin 8, ∑ v : Fin 8, (x (ix6 b k p u q v) : EReal) := by
  have e : Host.reduceAdd (F := Ideal) x init reducesTo_S32x10x64x8x64x8_S32x10x64x64_d3_5 h_S_ (ix4 b k p q)
      = init ix0 + ∑ i ∈ Finset.univ.filter
          (fun i => reducesTo_S32x10x64x8x64x8_S32x10x64x64_d3_5.drop i = ix4 b k p q), (x i : EReal) := by
    show init _ + _ = _
    congr 2
    exact funext fun a => a.elim0
  rw [e, Finset.sum_filter_eq_sum_of_fiber _ (fun w : Fin 8 × Fin 8 => (ix6 b k p w.1 q w.2 : S32x10x64x8x64x8.Idx))
    (fun w w' h => Prod.ext (congrFun h 3) (congrFun h 5)) (drop_eq b k p q), Fintype.sum_prod_type]

/-- A pixel of a block, after the image's two axes are each split in blocks of eight. -/
theorem split_at (x : FVec Ideal S32x10x512x512 .f32) (b : Fin 32) (k : Fin 10) (p q : Fin 64) (u v : Fin 8) :
    shapeCast S32x10x64x8x64x8 x shapeCasts_S32x10x512x512_S32x10x64x8x64x8 (ix6 b k p u q v)
      = x (ix4 b k ⟨8 * (p : ℕ) + u, by omega⟩ ⟨8 * (q : ℕ) + v, by omega⟩) := by
  pointwise []
  congr 2 <;> exact Fin.ext (by dsimp only; omega)

variable (V : Valuation τ sig (Elt Ideal)) (img : Fin 32 → Fin 512 → Fin 512 → ℝ)
  (hV : ∀ b i j, V (Proc.devRef .tc main_arg0) (ix4 b 0 i j) = ((img b i j : ℝ) : EReal))

include hV

/-- The reference's result, read at a cell. -/
theorem ref_cell (b : Fin 32) (k : Fin 10) (p q : Fin 64) :
    Host.divf (F := Ideal) (φ := .f32) (Host.reduceAdd (shapeCast _ (res_main_v163 V) shapeCasts_S32x10x512x512_S32x10x64x8x64x8)
      (constant S_ .f32 0x00000000#32) reducesTo_S32x10x64x8x64x8_S32x10x64x64_d3_5 h_S_)
      (broadcastInDim S32x10x64x64 ![] bcast_S_S32x10x64x64 (constant S_ .f32 0x42800000#32)) (ix4 b k p q)
      = ((cell (img b) k p q : ℝ) : EReal) := by
  have h1 : Host.reduceAdd (F := Ideal) (φ := .f32) (shapeCast _ (res_main_v163 V) shapeCasts_S32x10x512x512_S32x10x64x8x64x8)
      (constant S_ .f32 0x00000000#32) reducesTo_S32x10x64x8x64x8_S32x10x64x64_d3_5 h_S_ (ix4 b k p q)
      = ((∑ u : Fin 8, ∑ v : Fin 8, bin (img b) k (8 * p + u) (8 * q + v) : ℝ) : EReal) := by
    have h2 : ∀ u v : Fin 8, (shapeCast S32x10x64x8x64x8 (res_main_v163 (F := Ideal) V)
        shapeCasts_S32x10x512x512_S32x10x64x8x64x8 (ix6 b k p u q v) : EReal)
        = ((bin (img b) k (8 * p + u) (8 * q + v) : ℝ) : EReal) := fun u v =>
      (split_at (res_main_v163 (F := Ideal) V) b k p q u v).trans (ref_bin V img hV b k _ _)
    have h3 : constant (F := Ideal) S_ .f32 0x00000000#32 ix0 = (0 : EReal) := by
      pointwise []
    refine (sum_cell _ _ b k p q).trans ?_
    rw [h3, zero_add]
    simp only [← coe_sum]
    exact Finset.sum_congr rfl fun u _ => Finset.sum_congr rfl fun v _ => h2 u v
  show Ideal.div (Host.reduceAdd (F := Ideal) (φ := .f32) (shapeCast _ (res_main_v163 V) shapeCasts_S32x10x512x512_S32x10x64x8x64x8)
      (constant S_ .f32 0x00000000#32) reducesTo_S32x10x64x8x64x8_S32x10x64x64_d3_5 h_S_ (ix4 b k p q)) (Ideal.ofBits .f32 0x42800000#32) = _
  rw [h1, f32_sixtyfour, Ideal.div_coe (by norm_num), ← EReal.coe_mul]
  unfold cell mean
  rw [mul_one_div]

end Hog

end
-- ==== Proof.Finite.lean ====
module

public import proofs.«01_k».proof.Pre_finite
public import proofs.«01_k».proof.Proof.Ops
public import Idealize.ShloMosaic.Lib.ReduceAll
public import Idealize.ShloMosaic.Lib.Pointwise

@[expose] public section

/-! What the precondition says: every pixel is a real number. -/

namespace Hog

open Idealize.ShloMosaic Cert.Pre_finite

/-- The side conditions of the precondition's function. -/
theorem finite_facts : Cert.Pre_finite.Facts := ⟨by decide, by decide, by decide⟩

/-- An extended real whose size is below infinity is a real number. -/
theorem coe_toReal_of_abs_lt {a : EReal}
    (h : FloatOps.cmpf (F := Ideal) (φ := .f32) .olt (max a (-a)) (Ideal.ofBits .f32 0x7F800000#32) = 1#1) :
    a = ((a.toReal : ℝ) : EReal) := by
  have ht : Ideal.ofBits .f32 0x7F800000#32 = (⊤ : EReal) := by
    simp [Ideal.ofBits, Ideal.ieee]
  rw [ht] at h
  have h1 : max a (-a) < ⊤ := by
    have h2 : BitVec.ofBool (decide (max a (-a) < (⊤ : EReal))) = 1#1 := h
    by_contra hn
    rw [decide_eq_false hn] at h2
    exact absurd h2 (by decide)
  refine (EReal.coe_toReal (fun e => ?_) (fun e => ?_)).symm
  · rw [e] at h1; simp at h1
  · rw [e] at h1; simp at h1

variable [Cert.Pre_finite.Facts]

/-- Under the precondition every pixel is a real number. -/
theorem real_of_finite (x : FVec Ideal S32x1x512x512 .f32) (h : Cert.Pre_finite.fn (F := Ideal) x = fun _ => 1#1)
    (i : S32x1x512x512.Idx) : x i = (((x i : EReal).toReal : ℝ) : EReal) := by
  haveI : Subsingleton S_.Idx := ⟨fun a b => funext fun q => q.elim0⟩
  have e := congrFun h ix0
  dsimp only [fn] at e
  have e1 := Host.reduce_andi_all _ _ _ _ ix0 e i
  exact coe_toReal_of_abs_lt e1

end Hog

end
-- ==== Proof.lean ====
/- The claims put together: the frames of the three programs, and the equality of the kernel's and the reference's
   results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Array
public import proofs.«01_k».proof.Proof.Cells
public import proofs.«01_k».proof.Proof.Finite
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel as printed runs to an end, leaves its argument as it was and every counter at zero. -/
theorem frame_Kernel : Cert.quiescent_Kernel :=
  fun m g _ => Cert.Kernel.Gen.frame m g

/-- The same of the kernel over the extended reals. -/
theorem frame_KernelIdeal : Cert.quiescent_KernelIdeal :=
  fun m g _ => Cert.KernelIdeal.Gen.frame m g

/-- The reference runs to an end, leaves its argument as it was, and declares no semaphore. -/
theorem frame_ReferenceIdeal : Cert.quiescent_ReferenceIdeal := fun m g _ =>
  θ_run_mono (Cert.ReferenceIdeal.Value.run (F := Ideal) m g) fun r h =>
    ⟨fun c => (h c).2, Idealize.ShloMosaic.sem_eq_zero_of_no_sems (by decide) r.2⟩

/-- The frame of the kernel over the extended reals at finite images. -/
theorem frame_KernelIdeal_finite :
    Cert.quiescent_KernelIdeal_pre_finite (hPre_finite := Hog.finite_facts) :=
  fun m g _ => Cert.KernelIdeal.Gen.frame m g

/-- The frame of the reference at finite images. -/
theorem frame_ReferenceIdeal_finite :
    Cert.quiescent_ReferenceIdeal_pre_finite (hPre_finite := Hog.finite_facts) := fun m g _ =>
  frame_ReferenceIdeal m g trivial

/-- The reference's result is the array of histograms of the images that its argument holds. -/
theorem reference_eq (V : Valuation Cert.ReferenceIdeal.τ Cert.ReferenceIdeal.sig (Elt Ideal))
    (img : Fin 32 → Fin 512 → Fin 512 → ℝ)
    (hV : ∀ b i j, V (Proc.devRef .tc Cert.ReferenceIdeal.main_arg0) (ix4 b 0 i j) = ((img b i j : ℝ) : EReal)) :
    Host.divf (F := Ideal) (φ := .f32) (Host.reduceAdd
        (shapeCast _ (Cert.ReferenceIdeal.Value.res_main_v163 V) Cert.ReferenceIdeal.Gen.shapeCasts_S32x10x512x512_S32x10x64x8x64x8)
        (constant Cert.ReferenceIdeal.S_ .f32 0x00000000#32)
        Cert.ReferenceIdeal.Gen.reducesTo_S32x10x64x8x64x8_S32x10x64x64_d3_5 Cert.ReferenceIdeal.Gen.h_S_)
      (broadcastInDim Cert.ReferenceIdeal.S32x10x64x64 ![] Cert.ReferenceIdeal.Gen.bcast_S_S32x10x64x64
        (constant Cert.ReferenceIdeal.S_ .f32 0x42800000#32)) = Hog.hog img := by
  funext y
  obtain ⟨b, k, p, q, rfl⟩ : ∃ b k p q, y = ix4 b k p q := ⟨y 0, y 1, y 2, y 3, eq_ix4 y⟩
  exact Hog.ref_cell V img hV b k p q

/-- On finite images the kernel and the reference, over the extended reals, leave the same result. -/
theorem algebraic : Cert.algebraic_KernelIdeal_ReferenceIdeal_pre_finite (hPre_finite := Hog.finite_facts) := by
  intro m g m' g' hpre hagree
  let img : Dev Cert.KernelIdeal.nD → Fin 32 → Fin 512 → Fin 512 → ℝ := fun c b i j =>
    EReal.toReal (m ((c.tc : Thread Cert.KernelIdeal.nD Cert.KernelIdeal.τ).loc Cert.KernelIdeal.main_arg0) (ix4 b 0 i j))
  have hm : ∀ (c : Dev Cert.KernelIdeal.nD) b i j, m ((c.tc : Thread Cert.KernelIdeal.nD Cert.KernelIdeal.τ).loc Cert.KernelIdeal.main_arg0)
      (ix4 b 0 i j) = ((img c b i j : ℝ) : EReal) := fun c b i j =>
    haveI := Hog.finite_facts
    Hog.real_of_finite _ (hpre c) (ix4 b 0 i j)
  refine ⟨fun c => Hog.hog (img c), ?_, ?_⟩
  · refine θ_run_mono (Cert.KernelIdeal.Value.run_blocks m g) fun r h c => ?_
    exact ⟨(h c).1.trans (Hog.arr_eq m c (img c) (hm c)), (h c).2⟩
  · refine θ_run_mono (Cert.ReferenceIdeal.Value.run (F := Ideal) m' g') fun r h c => ?_
    refine ⟨(h c).1.trans (reference_eq _ (img c) fun b i j => ?_), (h c).2⟩
    rw [← hm c b i j]
    exact congrFun (hagree c) (ix4 b 0 i j)

/-- Everything claimed. -/
theorem claim : Cert.Claim :=
  ⟨Cert.Kernel.Gen.facts, Cert.KernelIdeal.Gen.facts, Cert.ReferenceIdeal.Gen.facts, Hog.finite_facts, frame_Kernel,
    frame_KernelIdeal, frame_KernelIdeal_finite, frame_ReferenceIdeal, frame_ReferenceIdeal_finite, trivial, algebraic⟩

end Cert.Proof

end
